-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_labelled_untied [hPre_finite_labelled_untied : Cert.Pre_finite_labelled_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_labelled_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_labelled_untied [hPre_finite_labelled_untied : Cert.Pre_finite_labelled_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_labelled_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_labelled_untied [hKernelIdeal : Cert.KernelIdeal.Facts] [hPre_finite_labelled_untied : Cert.Pre_finite_labelled_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_labelled_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_labelled_untied [hReferenceIdeal : Cert.ReferenceIdeal.Facts] [hPre_finite_labelled_untied : Cert.Pre_finite_labelled_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_labelled_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "step" .f32 0x3D4CCCCD#32 ((1 / 20 : ℝ) : EReal)

def algebraic_KernelIdeal_ReferenceIdeal_pre_finite_labelled_untied [hKernelIdeal : Cert.KernelIdeal.Facts] [hReferenceIdeal : Cert.ReferenceIdeal.Facts] [hPre_finite_labelled_untied : Cert.Pre_finite_labelled_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_labelled_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_labelled_untied : Cert.Pre_finite_labelled_untied.Facts),
    quiescent_Kernel (hKernel := hKernel)
    ∧ quiescent_KernelIdeal (hKernelIdeal := hKernelIdeal)
    ∧ quiescent_KernelIdeal_pre_finite_labelled_untied (hKernelIdeal := hKernelIdeal) (hPre_finite_labelled_untied := hPre_finite_labelled_untied)
    ∧ quiescent_ReferenceIdeal (hReferenceIdeal := hReferenceIdeal)
    ∧ quiescent_ReferenceIdeal_pre_finite_labelled_untied (hReferenceIdeal := hReferenceIdeal) (hPre_finite_labelled_untied := hPre_finite_labelled_untied)
    ∧ preserves_Kernel_KernelIdeal
    ∧ algebraic_KernelIdeal_ReferenceIdeal_pre_finite_labelled_untied (hKernelIdeal := hKernelIdeal) (hReferenceIdeal := hReferenceIdeal) (hPre_finite_labelled_untied := hPre_finite_labelled_untied)
-- ==== Pre_finite_labelled_untied.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩

class Facts : Prop where
  bcast_S_S65536x1000 : S_.BroadcastsInDim S65536x1000 (![] : Fin 0 → Fin S65536x1000.rank)
  bcast_S_S65536 : S_.BroadcastsInDim S65536 (![] : Fin 0 → Fin S65536.rank)
  reducesTo_S65536x1000_S65536_d1 : S65536x1000.ReducesTo [1] S65536
  h_S_ : 0 < S_.numel
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  reducesTo_S65536x1000_S_d0_1 : S65536x1000.ReducesTo [0, 1] S_
  reducesTo_S65536_S_d0 : S65536.ReducesTo [0] S_

variable [Facts]

def fn_part1 {F : FTy → Type} [FloatOps F] (main_arg1 : IVec S65536 32) (main_v4 : IVec S65536x1000 1) (main_v9 : IVec S65536 1) (main_v10 : IVec S65536x1000 32) (main_v14 : IVec S65536x1000 1) (main_v18 : IVec S65536x1000 1) : IVec S_ 1 :=
  let main_c_3 : IVec S_ 1 := constantI S_ 1 0#1
  let main_v19 : IVec S65536 1 := (fun x v => Host.reduce IntOp.ori x v reducesTo_S65536x1000_S65536_d1 h_S_) main_v18 main_c_3
  let main_v20 : IVec S65536x1 32 := broadcastInDim S65536x1 ![0] bcast_S65536_S65536x1_0 main_arg1
  let main_v21 : IVec S65536x1000 32 := broadcastInDim S65536x1000 ![0, 1] bcast_S65536x1_S65536x1000_0_1 main_v20
  let main_v22 : IVec S65536x1000 1 := cmpi .slt main_v10 main_v21
  let main_v23 : IVec S65536x1000 1 := andi main_v14 main_v22
  let main_c_4 : IVec S_ 1 := constantI S_ 1 0#1
  let main_v24 : IVec S65536 1 := (fun x v => Host.reduce IntOp.ori x v reducesTo_S65536x1000_S65536_d1 h_S_) main_v23 main_c_4
  let main_c_5 : IVec S_ 1 := constantI S_ 1 1#1
  let main_v25 : IVec S_ 1 := (fun x v => Host.reduce IntOp.andi x v reducesTo_S65536x1000_S_d0_1 h_S_) main_v4 main_c_5
  let main_v26 : IVec S65536 1 := andi main_v19 main_v24
  let main_v27 : IVec S65536 1 := noti main_v26
  let main_v28 : IVec S65536 1 := andi main_v9 main_v27
  let main_c_6 : IVec S_ 1 := constantI S_ 1 1#1
  let main_v29 : IVec S_ 1 := (fun x v => Host.reduce IntOp.andi x v reducesTo_S65536_S_d0 h_S_) main_v28 main_c_6
  let main_v30 : IVec S_ 1 := andi main_v25 main_v29
  main_v30

def fn {F : FTy → Type} [FloatOps F] (main_arg0 : FVec F S65536x1000 .f32) (main_arg1 : IVec S65536 32) (main_arg2 : IVec S65536 32) (main_arg3 : IVec S_ 32) : IVec S_ 1 :=
  let main_cst : FVec F S_ .f32 := constant S_ .f32 0xFF800000#32
  let main_v0 : FVec F S65536x1000 .f32 := broadcastInDim S65536x1000 ![] bcast_S_S65536x1000 main_cst
  let main_v1 : IVec S65536x1000 1 := cmpf .ogt main_arg0 main_v0
  let main_cst_0 : FVec F S_ .f32 := constant S_ .f32 0x7F800000#32
  let main_v2 : FVec F S65536x1000 .f32 := broadcastInDim S65536x1000 ![] bcast_S_S65536x1000 main_cst_0
  let main_v3 : IVec S65536x1000 1 := cmpf .olt main_arg0 main_v2
  let main_v4 : IVec S65536x1000 1 := andi main_v1 main_v3
  let main_c : IVec S_ 32 := constantI S_ 32 0#32
  let main_v5 : IVec S65536 32 := broadcastInDim S65536 ![] bcast_S_S65536 main_c
  let main_v6 : IVec S65536 1 := cmpi .sge main_arg1 main_v5
  let main_c_1 : IVec S_ 32 := constantI S_ 32 1000#32
  let main_v7 : IVec S65536 32 := broadcastInDim S65536 ![] bcast_S_S65536 main_c_1
  let main_v8 : IVec S65536 1 := cmpi .slt main_arg1 main_v7
  let main_v9 : IVec S65536 1 := andi main_v6 main_v8
  let main_v10 : IVec S65536x1000 32 := iotaInDim S65536x1000 32 1
  let main_cst_2 : FVec F S_ .f32 := constant S_ .f32 0xFF800000#32
  let main_v11 : FVec F S65536 .f32 := (fun x v => Host.reduce FloatOps.maximumf x v reducesTo_S65536x1000_S65536_d1 h_S_) main_arg0 main_cst_2
  let main_v12 : FVec F S65536x1 .f32 := broadcastInDim S65536x1 ![0] bcast_S65536_S65536x1_0 main_v11
  let main_v13 : FVec F S65536x1000 .f32 := broadcastInDim S65536x1000 ![0, 1] bcast_S65536x1_S65536x1000_0_1 main_v12
  let main_v14 : IVec S65536x1000 1 := cmpf .oeq main_arg0 main_v13
  let main_v15 : IVec S65536x1 32 := broadcastInDim S65536x1 ![0] bcast_S65536_S65536x1_0 main_arg1
  let main_v16 : IVec S65536x1000 32 := broadcastInDim S65536x1000 ![0, 1] bcast_S65536x1_S65536x1000_0_1 main_v15
  let main_v17 : IVec S65536x1000 1 := cmpi .eq main_v10 main_v16
  let main_v18 : IVec S65536x1000 1 := andi main_v14 main_v17
  fn_part1 (F := F) main_arg1 main_v4 main_v9 main_v10 main_v14 main_v18
-- ==== Kernel.lean ====
abbrev S65536x1000 : Shape := ⟨2, ![65536, 1000]⟩
abbrev S65536 : Shape := ⟨1, ![65536]⟩
abbrev S_ : Shape := ⟨0, ![]⟩
abbrev S32x1x2048 : Shape := ⟨3, ![32, 1, 2048]⟩
abbrev S4x65536 : Shape := ⟨2, ![4, 65536]⟩
abbrev S4x512x128 : Shape := ⟨3, ![4, 512, 128]⟩
abbrev S1x1 : Shape := ⟨2, ![1, 1]⟩
abbrev S1 : Shape := ⟨1, ![1]⟩
abbrev S2048x1000 : Shape := ⟨2, ![2048, 1000]⟩
abbrev S1x1x2048 : Shape := ⟨3, ![1, 1, 2048]⟩
abbrev S4x2048 : Shape := ⟨2, ![4, 2048]⟩
abbrev S1x2048 : Shape := ⟨2, ![1, 2048]⟩
abbrev S2048x1 : Shape := ⟨2, ![2048, 1]⟩
abbrev S1024x1000 : Shape := ⟨2, ![1024, 1000]⟩
abbrev S1024x1 : Shape := ⟨2, ![1024, 1]⟩
abbrev S1024 : Shape := ⟨1, ![1024]⟩
abbrev S1024x4 : Shape := ⟨2, ![1024, 4]⟩
abbrev S2048x4 : Shape := ⟨2, ![2048, 4]⟩
abbrev S1x512x128 : Shape := ⟨3, ![1, 512, 128]⟩
abbrev S512x128 : Shape := ⟨2, ![512, 128]⟩
abbrev S1x1x1 : Shape := ⟨3, ![1, 1, 1]⟩

abbrev nBuf : Space → Nat
  | .hbm => 9
  | .vmem => 8
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536, .i32⟩
  | .hbm, ⟨3, _⟩ => ⟨S_, .i32⟩
  | .hbm, ⟨4, _⟩ => ⟨S32x1x2048, .i32⟩
  | .hbm, ⟨5, _⟩ => ⟨S4x65536, .f32⟩
  | .hbm, ⟨6, _⟩ => ⟨S4x512x128, .f32⟩
  | .hbm, ⟨7, _⟩ => ⟨S1x1, .f32⟩
  | .hbm, ⟨8, _⟩ => ⟨S1, .f32⟩
  | .local _ .vmem, ⟨0, _⟩ => ⟨S2048x1000, .f32⟩
  | .local _ .vmem, ⟨1, _⟩ => ⟨S2048x1000, .f32⟩
  | .local _ .vmem, ⟨2, _⟩ => ⟨S1x1x2048, .i32⟩
  | .local _ .vmem, ⟨3, _⟩ => ⟨S1x1x2048, .i32⟩
  | .local _ .vmem, ⟨4, _⟩ => ⟨S4x2048, .f32⟩
  | .local _ .vmem, ⟨5, _⟩ => ⟨S4x2048, .f32⟩
  | .local _ .vmem, ⟨6, _⟩ => ⟨S4x512x128, .f32⟩
  | .local _ .vmem, ⟨7, _⟩ => ⟨S1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32 : BitVec 32 := 0#32
  let c21_i32 : BitVec 32 := 21#32
  let v32 : BitVec 32 := Scalar.addi c0_i32 c21_i32
  let c1_i32 : BitVec 32 := 1#32
  ⟨c0_i32, v32, c1_i32⟩
abbrev stage1_0 : Fin 1 → Memref sig .tc .vmem S4x512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "step" => some ((1 / 20 : ℝ) : EReal)
  | _ => none
-- ==== ReferenceIdeal.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩
abbrev S20 : Shape := ⟨1, ![20]⟩
abbrev S1 : Shape := ⟨1, ![1]⟩
abbrev S21 : Shape := ⟨1, ![21]⟩
abbrev S1x65536 : Shape := ⟨2, ![1, 65536]⟩
abbrev S21x1 : Shape := ⟨2, ![21, 1]⟩
abbrev S21x65536 : Shape := ⟨2, ![21, 65536]⟩
abbrev S65536x1x1 : Shape := ⟨3, ![65536, 1, 1]⟩
abbrev S1x1x1 : Shape := ⟨3, ![1, 1, 1]⟩

abbrev nBuf : Space → Nat
  | .hbm => 191
  | .vmem => 0
  | .smem => 0
  | _ => 0

abbrev hbmTy0_0 (i : Nat) : BufTy := match i % 128 with
  | 0 => ⟨S65536x1000, .f32⟩
  | 1 => ⟨S65536, .i32⟩
  | 2 => ⟨S65536, .i32⟩
  | 3 => ⟨S_, .i32⟩
  | 4 => ⟨S_, .f32⟩
  | 5 => ⟨S65536, .f32⟩
  | 6 => ⟨S_, .f32⟩
  | 7 => ⟨S65536, .f32⟩
  | 8 => ⟨S65536, .f32⟩
  | 9 => ⟨S65536x1, .f32⟩
  | 10 => ⟨S65536x1000, .f32⟩
  | 11 => ⟨S65536x1000, .f32⟩
  | 12 => ⟨S65536x1000, .f32⟩
  | 13 => ⟨S_, .f32⟩
  | 14 => ⟨S65536, .f32⟩
  | 15 => ⟨S65536x1, .f32⟩
  | 16 => ⟨S65536x1000, .f32⟩
  | 17 => ⟨S65536x1000, .f32⟩
  | 18 => ⟨S_, .f32⟩
  | 19 => ⟨S65536, .f32⟩
  | 20 => ⟨S65536x1000, .i32⟩
  | 21 => ⟨S_, .f32⟩
  | 22 => ⟨S_, .i32⟩
  | 23 => ⟨S65536, .f32⟩
  | 24 => ⟨S65536, .i32⟩
  | 25 => ⟨S65536x1000, .f32⟩
  | 26 => ⟨S65536x1000, .f32⟩
  | 27 => ⟨S_, .f32⟩
  | 28 => ⟨S65536, .f32⟩
  | 29 => ⟨S65536, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S20, .f32⟩
  | 42 => ⟨S_, .f32⟩
  | 43 => ⟨S20, .f32⟩
  | 44 => ⟨S20, .f32⟩
  | 45 => ⟨S1, .f32⟩
  | 46 => ⟨S_, .f32⟩
  | 47 => ⟨S20, .f32⟩
  | 48 => ⟨S20, .f32⟩
  | 49 => ⟨S20, .f32⟩
  | 50 => ⟨S20, .f32⟩
  | 51 => ⟨S1, .f32⟩
  | 52 => ⟨S20, .f32⟩
  | 53 => ⟨S20, .f32⟩
  | 54 => ⟨S20, .f32⟩
  | 55 => ⟨S1, .f32⟩
  | 56 => ⟨S21, .f32⟩
  | 57 => ⟨S_, .f32⟩
  | 58 => ⟨S21, .f32⟩
  | 59 => ⟨S21, .f32⟩
  | 60 => ⟨S21, .f32⟩
  | 61 => ⟨S21, .f32⟩
  | 62 => ⟨S65536, .i1⟩
  | 63 => ⟨S65536, .f32⟩
  | 64 => ⟨S1x65536, .f32⟩
  | 65 => ⟨S21x1, .f32⟩
  | 66 => ⟨S21x65536, .f32⟩
  | 67 => ⟨S21x65536, .f32⟩
  | 68 => ⟨S21x65536, .i1⟩
  | 69 => ⟨S1x65536, .i1⟩
  | 70 => ⟨S21x65536, .i1⟩
  | 71 => ⟨S21x65536, .i1⟩
  | 72 => ⟨S_, .f32⟩
  | 73 => ⟨S65536, .f32⟩
  | 74 => ⟨S65536, .f32⟩
  | 75 => ⟨S65536, .f32⟩
  | 76 => ⟨S_, .f32⟩
  | 77 => ⟨S21x65536, .f32⟩
  | 78 => ⟨S21x65536, .f32⟩
  | 79 => ⟨S21x65536, .f32⟩
  | 80 => ⟨S_, .f32⟩
  | 81 => ⟨S21, .f32⟩
  | 82 => ⟨S21x65536, .i1⟩
  | 83 => ⟨S21x65536, .i1⟩
  | 84 => ⟨S21x65536, .i1⟩
  | 85 => ⟨S65536, .f32⟩
  | 86 => ⟨S_, .f32⟩
  | 87 => ⟨S21x65536, .f32⟩
  | 88 => ⟨S21x65536, .f32⟩
  | 89 => ⟨S21x65536, .f32⟩
  | 90 => ⟨S_, .f32⟩
  | 91 => ⟨S21, .f32⟩
  | 92 => ⟨S1x65536, .i1⟩
  | 93 => ⟨S21x65536, .i1⟩
  | 94 => ⟨S21x65536, .i1⟩
  | 95 => ⟨S_, .f32⟩
  | 96 => ⟨S65536, .f32⟩
  | 97 => ⟨S65536, .f32⟩
  | 98 => ⟨S_, .f32⟩
  | 99 => ⟨S65536, .f32⟩
  | 100 => ⟨S65536, .f32⟩
  | 101 => ⟨S65536, .f32⟩
  | 102 => ⟨S_, .f32⟩
  | 103 => ⟨S21x65536, .f32⟩
  | 104 => ⟨S21x65536, .f32⟩
  | 105 => ⟨S21x65536, .f32⟩
  | 106 => ⟨S_, .f32⟩
  | 107 => ⟨S21, .f32⟩
  | 108 => ⟨S1x65536, .i1⟩
  | 109 => ⟨S21x65536, .i1⟩
  | 110 => ⟨S21x65536, .i1⟩
  | 111 => ⟨S21x65536, .i1⟩
  | 112 => ⟨S_, .f32⟩
  | 113 => ⟨S65536, .f32⟩
  | 114 => ⟨S65536, .f32⟩
  | 115 => ⟨S65536, .f32⟩
  | 116 => ⟨S_, .f32⟩
  | 117 => ⟨S21x65536, .f32⟩
  | 118 => ⟨S21x65536, .f32⟩
  | 119 => ⟨S21x65536, .f32⟩
  | 120 => ⟨S_, .f32⟩
  | 121 => ⟨S21, .f32⟩
  | 122 => ⟨S21, .f32⟩
  | 123 => ⟨S21, .f32⟩
  | 124 => ⟨S21, .f32⟩
  | 125 => ⟨S21, .f32⟩
  | 126 => ⟨S_, .f32⟩
  | 127 => ⟨S21, .f32⟩
  | _ => ⟨S65536x1000, .f32⟩

abbrev hbmTy0_1 (i : Nat) : BufTy := match i % 128 with
  | 0 => ⟨S21, .f32⟩
  | 1 => ⟨S21, .f32⟩
  | 2 => ⟨S20, .f32⟩
  | 3 => ⟨S20, .f32⟩
  | 4 => ⟨S20, .f32⟩
  | 5 => ⟨S20, .f32⟩
  | 6 => ⟨S20, .f32⟩
  | 7 => ⟨S20, .f32⟩
  | 8 => ⟨S20, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S65536, .f32⟩
  | 20 => ⟨S_, .f32⟩
  | 21 => ⟨S65536, .f32⟩
  | 22 => ⟨S65536, .f32⟩
  | 23 => ⟨S65536x1, .f32⟩
  | 24 => ⟨S65536x1000, .f32⟩
  | 25 => ⟨S65536x1000, .f32⟩
  | 26 => ⟨S65536x1000, .f32⟩
  | 27 => ⟨S_, .f32⟩
  | 28 => ⟨S65536, .f32⟩
  | 29 => ⟨S65536x1, .f32⟩
  | 30 => ⟨S65536x1, .f32⟩
  | 31 => ⟨S65536x1000, .f32⟩
  | 32 => ⟨S65536x1000, .f32⟩
  | 33 => ⟨S65536x1, .i32⟩
  | 34 => ⟨S_, .i32⟩
  | 35 => ⟨S65536x1, .i32⟩
  | 36 => ⟨S65536x1, .i1⟩
  | 37 => ⟨S_, .i32⟩
  | 38 => ⟨S65536x1, .i32⟩
  | 39 => ⟨S65536x1, .i32⟩
  | 40 => ⟨S65536x1, .i32⟩
  | 41 => ⟨S65536x1x1, .i32⟩
  | 42 => ⟨S1, .i32⟩
  | 43 => ⟨S_, .i32⟩
  | 44 => ⟨S65536x1x1, .i32⟩
  | 45 => ⟨S65536x1x1, .i1⟩
  | 46 => ⟨S1x1x1, .i32⟩
  | 47 => ⟨S65536x1x1, .i32⟩
  | 48 => ⟨S65536x1x1, .i1⟩
  | 49 => ⟨S65536x1x1, .i1⟩
  | 50 => ⟨S_, .i1⟩
  | 51 => ⟨S65536x1, .i1⟩
  | 52 => ⟨S65536x1, .f32⟩
  | 53 => ⟨S_, .f32⟩
  | 54 => ⟨S65536x1, .f32⟩
  | 55 => ⟨S65536x1, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S1, .f32⟩
  | _ => ⟨S65536x1000, .f32⟩

abbrev hbmTy (i : Nat) : BufTy := match i / 128 with
  | 0 => hbmTy0_0 i
  | 1 => hbmTy0_1 i
  | _ => ⟨S65536x1000, .f32⟩

abbrev bufTy : (tb : Table) → Fin (tcTables nBuf tb) → BufTy
  | .hbm, ⟨i, _⟩ => hbmTy i
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_cst : Ref sig .tc := ⟨.hbm, 39, rfl⟩
abbrev main_call1_v3 : Ref sig .tc := ⟨.hbm, 40, rfl⟩
abbrev main_call1_v4 : Ref sig .tc := ⟨.hbm, 41, rfl⟩
abbrev main_call1_cst_0 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_cst_1 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_v15 : Ref sig .tc := ⟨.hbm, 54, rfl⟩
abbrev main_call1_v16 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_8 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v38 : Ref sig .tc := ⟨.hbm, 79, rfl⟩
abbrev main_cst_10 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_11 : Ref sig .tc := ⟨.hbm, 86, rfl⟩
abbrev main_call3_v0 : Ref sig .tc := ⟨.hbm, 87, rfl⟩
abbrev main_call3_v1 : Ref sig .tc := ⟨.hbm, 88, rfl⟩
abbrev main_v44 : Ref sig .tc := ⟨.hbm, 89, rfl⟩
abbrev main_cst_12 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_13 : Ref sig .tc := ⟨.hbm, 95, rfl⟩
abbrev main_v49 : Ref sig .tc := ⟨.hbm, 96, rfl⟩
abbrev main_v50 : Ref sig .tc := ⟨.hbm, 97, rfl⟩
abbrev main_cst_14 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_15 : Ref sig .tc := ⟨.hbm, 102, rfl⟩
abbrev main_call4_v0 : Ref sig .tc := ⟨.hbm, 103, rfl⟩
abbrev main_call4_v1 : Ref sig .tc := ⟨.hbm, 104, rfl⟩
abbrev main_v54 : Ref sig .tc := ⟨.hbm, 105, rfl⟩
abbrev main_cst_16 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_17 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_18 : Ref sig .tc := ⟨.hbm, 116, rfl⟩
abbrev main_call5_v0 : Ref sig .tc := ⟨.hbm, 117, rfl⟩
abbrev main_call5_v1 : Ref sig .tc := ⟨.hbm, 118, rfl⟩
abbrev main_v63 : Ref sig .tc := ⟨.hbm, 119, rfl⟩
abbrev main_cst_19 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_20 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_21 : Ref sig .tc := ⟨.hbm, 137, rfl⟩
abbrev main_v79 : Ref sig .tc := ⟨.hbm, 138, rfl⟩
abbrev main_cst_22 : Ref sig .tc := ⟨.hbm, 139, rfl⟩
abbrev main_v80 : Ref sig .tc := ⟨.hbm, 140, rfl⟩
abbrev main_cst_23 : Ref sig .tc := ⟨.hbm, 141, rfl⟩
abbrev main_v81 : Ref sig .tc := ⟨.hbm, 142, rfl⟩
abbrev main_v82 : Ref sig .tc := ⟨.hbm, 143, rfl⟩
abbrev main_cst_24 : Ref sig .tc := ⟨.hbm, 144, rfl⟩
abbrev main_v83 : Ref sig .tc := ⟨.hbm, 145, rfl⟩
abbrev main_call6_cst : Ref sig .tc := ⟨.hbm, 146, rfl⟩
abbrev main_call6_v0 : Ref sig .tc := ⟨.hbm, 147, rfl⟩
abbrev main_call6_cst_0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_cst_1 : Ref sig .tc := ⟨.hbm, 155, rfl⟩
abbrev main_call6_v7 : Ref sig .tc := ⟨.hbm, 156, rfl⟩
abbrev main_call6_v8 : Ref sig .tc := ⟨.hbm, 157, rfl⟩
abbrev main_call6_v9 : Ref sig .tc := ⟨.hbm, 158, rfl⟩
abbrev main_call6_v10 : Ref sig .tc := ⟨.hbm, 159, rfl⟩
abbrev main_v84 : Ref sig .tc := ⟨.hbm, 160, rfl⟩
abbrev main_v85 : Ref sig .tc := ⟨.hbm, 161, rfl⟩
abbrev main_call7_c : Ref sig .tc := ⟨.hbm, 162, rfl⟩
abbrev main_call7_v0 : Ref sig .tc := ⟨.hbm, 163, rfl⟩
abbrev main_call7_v1 : Ref sig .tc := ⟨.hbm, 164, rfl⟩
abbrev main_call7_c_0 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_call7_v5 : Ref sig .tc := ⟨.hbm, 169, rfl⟩
abbrev main_call7_c_1 : Ref sig .tc := ⟨.hbm, 170, rfl⟩
abbrev main_call7_c_2 : Ref sig .tc := ⟨.hbm, 171, rfl⟩
abbrev main_call7_v6 : Ref sig .tc := ⟨.hbm, 172, rfl⟩
abbrev main_call7_v7 : Ref sig .tc := ⟨.hbm, 173, rfl⟩
abbrev main_call7_v8 : Ref sig .tc := ⟨.hbm, 174, rfl⟩
abbrev main_call7_v9 : Ref sig .tc := ⟨.hbm, 175, rfl⟩
abbrev main_call7_v10 : Ref sig .tc := ⟨.hbm, 176, rfl⟩
abbrev main_call7_v11 : Ref sig .tc := ⟨.hbm, 177, rfl⟩
abbrev main_call7_c_3 : Ref sig .tc := ⟨.hbm, 178, rfl⟩
abbrev main_call7_v12 : Ref sig .tc := ⟨.hbm, 179, rfl⟩
abbrev main_call7_v13 : Ref sig .tc := ⟨.hbm, 180, rfl⟩
abbrev main_call7_cst : Ref sig .tc := ⟨.hbm, 181, rfl⟩
abbrev main_call7_v14 : Ref sig .tc := ⟨.hbm, 182, rfl⟩
abbrev main_v86 : Ref sig .tc := ⟨.hbm, 183, rfl⟩
abbrev main_cst_25 : Ref sig .tc := ⟨.hbm, 184, rfl⟩
abbrev main_v87 : Ref sig .tc := ⟨.hbm, 185, rfl⟩
abbrev main_cst_26 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩

abbrev nD : Nat := 1
abbrev τ : Topo := Topo.v7x

variable {F : FTy → Type} [FloatOps F]
-- ==== Proof.KernelIdealRun.lean ====
/- The run of `KernelIdeal`'s @main: a host reshape, the row-statistics pipeline over 32 blocks of rows, a host reshape, the
   finalize kernel and a last reshape. Each kernel body's triple is stated over any buffer contents; the buffers at every
   boundary are a fold from the launch memory; the run's post names the result and says the arguments are unchanged. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- Window `w`'s block of the row-statistics region at grid point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits' staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The labels' staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x1x2048 := Rect.unit (s := S1x1x2048) ![0, 0, 0] S1x1x2048.size inb_S1x1x2048_S1x1x2048_0_0_0
abbrev r0_1 : Rect S2048x1000 := Rect.unit (s := S2048x1000) ![0, 0] S1024x1000.size inb_S2048x1000_S1024x1000_0_0
abbrev r0_2 : Rect S2048x1000 := Rect.unit (s := S2048x1000) ![1024, 0] S1024x1000.size inb_S2048x1000_S1024x1000_1024_0
abbrev r0_3 : Rect S4x2048 := Rect.unit (s := S4x2048) ![0, 0] S4x2048.size inb_S4x2048_S4x2048_0_0

/-- What one grid point of the row-statistics kernel leaves in its output buffer, from the logits' block `x0` and the labels' block `x1`. -/
def out0_2 (x0 : Vec F S2048x1000 .f32) (x1 : Vec F S1x1x2048 .i32) : Vec F S4x2048 .f32 :=
  View.canon [⟨r0_3, k0_pay1 (iota .tc S1024x1000 32 [1] iota_S1024x1000_d1_w32) (k0_pay3 (View.ld x1 r0_0) (View.ld x0 r0_1)) (View.ld x0 r0_2) (k0_pay4 (View.ld x1 r0_0)) (k0_pay5 (View.ld x0 r0_2)) (k0_pay7 (View.ld x0 r0_2)) (k0_pay8 (View.ld x0 r0_2))⟩]

/-- The one store covers the output buffer. -/
theorem cover0_2 (p0 : Vec F S4x2048 .f32) (y : S4x2048.Idx) :
    ∃ pc ∈ ([⟨r0_3, p0⟩] : List (View.Piece (Elt F) S4x2048 .f32)), y ∈ pc.1.set :=
  View.cover_of_tiled [⟨r0_3, p0⟩] S4x2048.size (by rfl) y

set_option maxHeartbeats 1000000 in
/-- The row-statistics body, run: its inputs stay, its output buffer ends at `out0_2` of them. -/
theorem sound_kernel0 (c : Dev nD) (E : Set ℕ) (i : grid0.Coords) (arg1 : Memref sig .tc .vmem S2048x1000 .f32) (harg1 : arg1.IsWhole) (arg2 : Memref sig .tc .vmem S1x1x2048 .i32) (harg2 : arg2.IsWhole) (arg3 : Memref sig .tc .vmem S4x2048 .f32) (harg3 : arg3.IsWhole)
    (x0 : Vec F S2048x1000 .f32) (x1 : Vec F S1x1x2048 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_row_stats i arg1 harg1 arg2 harg2 arg3 harg3) K := by
  simp only [cc0_row_stats_eq_skeleton]; unfold cc0_row_stats_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The row-statistics pipeline: inputs left in place, the output at `out0_2` of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The row-statistics body at any grid point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

/-- The pipeline library's obligation for the row-statistics body. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Window `w`'s block of the finalize region. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S4x512x128 := Rect.unit (s := S4x512x128) ![0, 0, 0] S1x512x128.size inb_S4x512x128_S1x512x128_0_0_0
abbrev r1_1 : Rect S4x512x128 := Rect.unit (s := S4x512x128) ![1, 0, 0] S1x512x128.size inb_S4x512x128_S1x512x128_1_0_0
abbrev r1_2 : Rect S4x512x128 := Rect.unit (s := S4x512x128) ![2, 0, 0] S1x512x128.size inb_S4x512x128_S1x512x128_2_0_0
abbrev r1_3 : Rect S4x512x128 := Rect.unit (s := S4x512x128) ![3, 0, 0] S1x512x128.size inb_S4x512x128_S1x512x128_3_0_0
abbrev r1_4 : Rect S1x1 := Rect.unit (s := S1x1) ![0, 0] S1x1.size inb_S1x1_S1x1_0_0

/-- What trip `k` of the finalize kernel's loop makes of the running sum `acc`, from the three loaded planes. -/
def trip (v0 v2 v4 : Vec F S1x512x128 .f32) (k : Fin k1_t1_loop.trips) (acc : F .f32) : F .f32 :=
  k1_pay14 acc (Scf.iv 0#32 1#32 k) (k1_pay2 (k1_pay4 v2) (k1_pay6 v2) (k1_pay8 v0 v2) (k1_pay9 v0 v2) (k1_pay10 v0 v2)
    (k1_pay11 v0 v2) (k1_pay12 v4) (k1_pay13 v2) 0#32 1#32 k) 0#32

/-- The loop touches no memory: it returns the fold of `trip` over its trips. -/
theorem loop_eq (arg0 : Memref sig .tc .vmem S4x512x128 .f32) (harg0 : arg0.IsWhole) (arg1 : Memref sig .tc .vmem S1x1 .f32)
    (harg1 : arg1.IsWhole) (v0 v2 v4 : Vec F S1x512x128 .f32) (init : F .f32) :
    Scf.Loop.for k1_t1_loop k1_t1_ok init (k1_t1_body arg0 harg0 arg1 harg1 v0 v2 v4) = .ret (Scf.fold (trip v0 v2 v4) init) :=
  Scf.for_pure _ _ _ _ _ _ _ fun k acc => by unfold k1_t1_body; rw [k1_part1_eq_skeleton]; rfl

/-- The first part of the finalize kernel with its loop folded: four loads, then the two values the rest reads. -/
theorem part2_eq (arg0 : Memref sig .tc .vmem S4x512x128 .f32) (harg0 : arg0.IsWhole) (arg1 : Memref sig .tc .vmem S1x1 .f32)
    (harg1 : arg1.IsWhole) : k1_part2 (F := F) arg0 harg0 arg1 harg1 = (do
      let v0 : Vec F S1x512x128 .f32 ← Prog.lift (.load arg0 r1_0.toLoadRect (View.loadsAt_vmem h_S1x512x128))
      let v2 : Vec F S1x512x128 .f32 ← Prog.lift (.load arg0 r1_1.toLoadRect (View.loadsAt_vmem h_S1x512x128))
      let v4 : Vec F S1x512x128 .f32 ← Prog.lift (.load arg0 r1_2.toLoadRect (View.loadsAt_vmem h_S1x512x128))
      let v6 : Vec F S1x512x128 .f32 ← Prog.lift (.load arg0 r1_3.toLoadRect (View.loadsAt_vmem h_S1x512x128))
      pure ⟨k1_pay5 v6, k1_pay15 (Scf.fold (trip v0 v2 v4) (Scalar.ofBits .f32 0x00000000#32))⟩) := by
  rw [k1_part2_eq_skeleton]; unfold k1_part2_skel; simp only [loop_eq]; rfl

/-- What the finalize kernel leaves in its one-element output, from the whole array of statistics. -/
def out1_1 (x0 : Vec F S4x512x128 .f32) : Vec F S1x1 .f32 :=
  View.canon [⟨r1_4, k1_pay1 (k1_pay5 (View.ld x0 r1_3))
    (k1_pay15 (Scf.fold (trip (View.ld x0 r1_0) (View.ld x0 r1_1) (View.ld x0 r1_2)) (Scalar.ofBits .f32 0x00000000#32)))⟩]

/-- The one store covers the output. -/
theorem cover1_1 (p0 : Vec F S1x1 .f32) (y : S1x1.Idx) :
    ∃ pc ∈ ([⟨r1_4, p0⟩] : List (View.Piece (Elt F) S1x1 .f32)), y ∈ pc.1.set :=
  View.cover_of_tiled [⟨r1_4, p0⟩] S1x1.size (by rfl) y

set_option maxHeartbeats 1000000 in
/-- The finalize body, run: the statistics stay, the output ends at `out1_1` of them. -/
theorem sound_kernel1 (c : Dev nD) (E : Set ℕ) (arg0 : Memref sig .tc .vmem S4x512x128 .f32) (harg0 : arg0.IsWhole) (arg1 : Memref sig .tc .vmem S1x1 .f32) (harg1 : arg1.IsWhole)
    (x0 : Vec F S4x512x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1_avu_finalize arg0 harg0 arg1 harg1) K := by
  simp only [cc1_avu_finalize_eq_skeleton]; unfold cc1_avu_finalize_skel
  simp only [part2_eq]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The finalize pipeline: the statistics left in place, the output at `out1_1` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row1 (t : Fin cfg1.N) :
    defs₀ (F := F) .tc cfg1.body (cfg1.bodyArgs t (cfg1.slots t)) = bodyAt1 t := by
  unfold defs₀; rw [Defs.onTc_tc]

/-- The pipeline library's obligation for the finalize body. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-- The argument arrays. -/
abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_call0_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_call0_v2]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v0]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- after the labels' reshape, -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- after the row-statistics region, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the statistics' reshape, -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- after the finalize region, -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- and at the return. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides along beside the buffers: the generator register and the (empty) debts. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- The row-statistics region as a segment: its arrays are split out of the buffers at entry and put back at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The finalize region as a segment: its arrays are split out of the buffers at entry and put back at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main as three host stretches around two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is those segments in order. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- THE RUN: started with every counter at zero, @main ends, nothing faulting, with the result at the last boundary's
    contents, the four arguments as launched and every counter at zero. -/
theorem run : θ_run defs (onTc (τ := τ) (main (F := F))) ⟨m, fun _ => 0, ρ⟩ (fun r => (∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.KernelIdeal.Run

end
-- ==== Proof.RefRun.lean ====
/- The reference's run: its 187 host operations as a list, cut into windows, and each window's results as the pure terms
   of the arguments' contents at launch. The text is what the library's run writer gives for the printed program once the
   arg-max's function is written `fun x y u v => fun j => …`; as the program is printed no run is generated. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v19`, named. It packs its operands into a list of dependent pairs
    whose shapes a later argument's type mentions, so `simp` cannot rewrite an operand where it stands; applied by
    name, the operands are plain arguments, which the window lemmas below rewrite before the name unfolds. -/
def fn_main_v19 : (main_call1_v15 : Ref sig .tc).ty.Contents (Elt F) → (main_call1_v16 : Ref sig .tc).ty.Contents (Elt F) → (main_v19 : Ref sig .tc).ty.Contents (Elt F) :=
  (fun a b => concatenate S21 0 [⟨S20, a⟩, ⟨S1, b⟩] concatenates_S20_S1_S21_d0)

/-- @main's operations 1 … 30 of 187 (window `main_part0`). -/
abbrev ops_part0_0 : List (HloOp τ sig (Elt F)) :=
  [ nullary main_cst (constant S_ .f32 0xFF800000#32),
    binary main_arg0 main_cst main_v0 ((fun x v => Host.reduce FloatOps.maximumf x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    nullary main_cst_0 (constant S_ .f32 0xFF800000#32),
    unary main_cst_0 main_v1 (broadcastInDim S65536 ![] bcast_S_S65536 : (⟨S_, .f32⟩ : BufTy).Contents (Elt F) → (⟨S65536, .f32⟩ : BufTy).Contents (Elt F)),
    binary main_v1 main_v0 main_v2 (maximumf : (⟨S65536, .f32⟩ : BufTy).Contents (Elt F) → (⟨S65536, .f32⟩ : BufTy).Contents (Elt F) → (⟨S65536, .f32⟩ : BufTy).Contents (Elt F)),
    unary main_v2 main_v3 (broadcastInDim S65536x1 ![0] bcast_S65536_S65536x1_0 : (⟨S65536, .f32⟩ : BufTy).Contents (Elt F) → (⟨S65536x1, .f32⟩ : BufTy).Contents (Elt F)),
    unary main_v3 main_v4 (broadcastInDim S65536x1000 ![0, 1] bcast_S65536x1_S65536x1000_0_1 : (⟨S65536x1, .f32⟩ : BufTy).Contents (Elt F) → (⟨S65536x1000, .f32⟩ : BufTy).Contents (Elt F)),
    binary main_arg0 main_v4 main_v5 (subf : (⟨S65536x1000, .f32⟩ : BufTy).Contents (Elt F) → (⟨S65536x1000, .f32⟩ : BufTy).Contents (Elt F) → (⟨S65536x1000, .f32⟩ : BufTy).Contents (Elt F)),
    unary main_v5 main_v6 (Host.exp : (⟨S65536x1000, .f32⟩ : BufTy).Contents (Elt F) → (⟨S65536x1000, .f32⟩ : BufTy).Contents (Elt F)),
    nullary main_cst_1 (constant S_ .f32 0x00000000#32),
    binary main_v6 main_cst_1 main_v7 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v7 main_v8 (broadcastInDim S65536x1 ![0] bcast_S65536_S65536x1_0 : (⟨S65536, .f32⟩ : BufTy).Contents (Elt F) → (⟨S65536x1, .f32⟩ : BufTy).Contents (Elt F)),
    unary main_v8 main_v9 (broadcastInDim S65536x1000 ![0, 1] bcast_S65536x1_S65536x1000_0_1 : (⟨S65536x1, .f32⟩ : BufTy).Contents (Elt F) → (⟨S65536x1000, .f32⟩ : BufTy).Contents (Elt F)),
    binary main_v6 main_v9 main_v10 (Host.divf : (⟨S65536x1000, .f32⟩ : BufTy).Contents (Elt F) → (⟨S65536x1000, .f32⟩ : BufTy).Contents (Elt F) → (⟨S65536x1000, .f32⟩ : BufTy).Contents (Elt F)),
    nullary main_cst_2 (constant S_ .f32 0xFF800000#32),
    binary main_v10 main_cst_2 main_v11 ((fun x v => Host.reduce FloatOps.maximumf x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    TRef.nullary (TRef.of (T := ⟨S65536x1000, .i32⟩) main_call0_v0) (iotaInDim S65536x1000 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S65536x1000, .f32⟩) main_v10) (TRef.of (T := ⟨S65536x1000, .i32⟩) main_call0_v0) (TRef.of (T := ⟨S_, .f32⟩) main_call0_cst) (TRef.of (T := ⟨S_, .i32⟩) main_call0_c) (TRef.of (T := ⟨S65536, .f32⟩) main_call0_v1_0) (fun x y u v => fun j => (Host.argReduce reducer_argmax_f32_i32 x y u v reducesTo_S65536x1000_S65536_d1 h_S_ j).1),
    TRef.quaternary (TRef.of (T := ⟨S65536x1000, .f32⟩) main_v10) (TRef.of (T := ⟨S65536x1000, .i32⟩) main_call0_v0) (TRef.of (T := ⟨S_, .f32⟩) main_call0_cst) (TRef.of (T := ⟨S_, .i32⟩) main_call0_c) (TRef.of (T := ⟨S65536, .i32⟩) main_v12) (fun x y u v => fun j => (Host.argReduce reducer_argmax_f32_i32 x y u v reducesTo_S65536x1000_S65536_d1 h_S_ j).2),
    unary main_v10 main_v13 (Host.log : (⟨S65536x1000, .f32⟩ : BufTy).Contents (Elt F) → (⟨S65536x1000, .f32⟩ : BufTy).Contents (Elt F)),
    binary main_v10 main_v13 main_v14 (mulf : (⟨S65536x1000, .f32⟩ : BufTy).Contents (Elt F) → (⟨S65536x1000, .f32⟩ : BufTy).Contents (Elt F) → (⟨S65536x1000, .f32⟩ : BufTy).Contents (Elt F)),
    nullary main_cst_3 (constant S_ .f32 0x00000000#32),
    binary main_v14 main_cst_3 main_v15 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v15 main_v16 (Host.negf : (⟨S65536, .f32⟩ : BufTy).Contents (Elt F) → (⟨S65536, .f32⟩ : BufTy).Contents (Elt F)),
    nullary main_cst_4 (constant S_ .f32 0x7F800000#32),
    binary main_v16 main_cst_4 main_v17 ((fun x v => Host.reduce FloatOps.minimumf x v reducesTo_S65536_S_d0 h_S_) : (⟨S65536, .f32⟩ : BufTy).Contents (Elt F) → (⟨S_, .f32⟩ : BufTy).Contents (Elt F) → (⟨S_, .f32⟩ : BufTy).Contents (Elt F)),
    nullary main_cst_5 (constant S_ .f32 0xFF800000#32),
    binary main_v16 main_cst_5 main_v18 ((fun x v => Host.reduce FloatOps.maximumf x v reducesTo_S65536_S_d0 h_S_) : (⟨S65536, .f32⟩ : BufTy).Contents (Elt F) → (⟨S_, .f32⟩ : BufTy).Contents (Elt F) → (⟨S_, .f32⟩ : BufTy).Contents (Elt F)) ]

/-- @main's operations 31 … 60 of 187 (window `main_part0`). -/
abbrev ops_part0_1 : List (HloOp τ sig (Elt F)) :=
  [ nullary main_cst_6 (constant S_ .f32 0x00000000#32),
    nullary main_cst_7 (constant S_ .f32 0x3F800000#32),
    TRef.unary (TRef.of (T := ⟨S_, .f32⟩) main_cst_6) (TRef.of (T := ⟨S_, .f32⟩) main_call1_v0) id,
    TRef.unary (TRef.of (T := ⟨S_, .f32⟩) main_cst_7) (TRef.of (T := ⟨S_, .f32⟩) main_call1_v1) id,
    TRef.binary (TRef.of (T := ⟨S_, .f32⟩) main_call1_v1) (TRef.of (T := ⟨S_, .f32⟩) main_call1_v0) (TRef.of (T := ⟨S_, .f32⟩) main_call1_v2) subf,
    TRef.nullary (TRef.of (T := ⟨S_, .f32⟩) main_call1_cst) (constant S_ .f32 0x41A00000#32),
    TRef.binary (TRef.of (T := ⟨S_, .f32⟩) main_call1_v2) (TRef.of (T := ⟨S_, .f32⟩) main_call1_cst) (TRef.of (T := ⟨S_, .f32⟩) main_call1_v3) Host.divf,
    TRef.nullary (TRef.of (T := ⟨S20, .f32⟩) main_call1_v4) (sitofp .f32 (iotaInDim S20 32 0)),
    TRef.nullary (TRef.of (T := ⟨S_, .f32⟩) main_call1_cst_0) (constant S_ .f32 0x41A00000#32),
    TRef.unary (TRef.of (T := ⟨S_, .f32⟩) main_call1_cst_0) (TRef.of (T := ⟨S20, .f32⟩) main_call1_v5) (broadcastInDim S20 ![] bcast_S_S20),
    TRef.binary (TRef.of (T := ⟨S20, .f32⟩) main_call1_v4) (TRef.of (T := ⟨S20, .f32⟩) main_call1_v5) (TRef.of (T := ⟨S20, .f32⟩) main_call1_v6) Host.divf,
    TRef.reshape (TRef.of (T := ⟨S_, .f32⟩) main_call1_v0) (TRef.of (T := ⟨S1, .f32⟩) main_call1_v7) (rfl : (.f32 : EltTy) = .f32) shapeCasts_S_S1,
    TRef.nullary (TRef.of (T := ⟨S_, .f32⟩) main_call1_cst_1) (constant S_ .f32 0x3F800000#32),
    TRef.unary (TRef.of (T := ⟨S_, .f32⟩) main_call1_cst_1) (TRef.of (T := ⟨S20, .f32⟩) main_call1_v8) (broadcastInDim S20 ![] bcast_S_S20),
    TRef.binary (TRef.of (T := ⟨S20, .f32⟩) main_call1_v8) (TRef.of (T := ⟨S20, .f32⟩) main_call1_v6) (TRef.of (T := ⟨S20, .f32⟩) main_call1_v9) subf,
    TRef.unary (TRef.of (T := ⟨S1, .f32⟩) main_call1_v7) (TRef.of (T := ⟨S20, .f32⟩) main_call1_v10) (broadcastInDim S20 ![0] bcast_S1_S20_0),
    TRef.binary (TRef.of (T := ⟨S20, .f32⟩) main_call1_v10) (TRef.of (T := ⟨S20, .f32⟩) main_call1_v9) (TRef.of (T := ⟨S20, .f32⟩) main_call1_v11) mulf,
    TRef.reshape (TRef.of (T := ⟨S_, .f32⟩) main_call1_v1) (TRef.of (T := ⟨S1, .f32⟩) main_call1_v12) (rfl : (.f32 : EltTy) = .f32) shapeCasts_S_S1,
    TRef.unary (TRef.of (T := ⟨S1, .f32⟩) main_call1_v12) (TRef.of (T := ⟨S20, .f32⟩) main_call1_v13) (broadcastInDim S20 ![0] bcast_S1_S20_0),
    TRef.binary (TRef.of (T := ⟨S20, .f32⟩) main_call1_v13) (TRef.of (T := ⟨S20, .f32⟩) main_call1_v6) (TRef.of (T := ⟨S20, .f32⟩) main_call1_v14) mulf,
    TRef.binary (TRef.of (T := ⟨S20, .f32⟩) main_call1_v11) (TRef.of (T := ⟨S20, .f32⟩) main_call1_v14) (TRef.of (T := ⟨S20, .f32⟩) main_call1_v15) addf,
    TRef.unary (TRef.of (T := ⟨S_, .f32⟩) main_call1_v1) (TRef.of (T := ⟨S1, .f32⟩) main_call1_v16) (broadcastInDim S1 ![] bcast_S_S1),
    TRef.binary (TRef.of (T := ⟨S20, .f32⟩) main_call1_v15) (TRef.of (T := ⟨S1, .f32⟩) main_call1_v16) (TRef.of (T := ⟨S21, .f32⟩) main_v19) (fn_main_v19 (F := F)),
    binary main_v18 main_v17 main_v20 (subf : (⟨S_, .f32⟩ : BufTy).Contents (Elt F) → (⟨S_, .f32⟩ : BufTy).Contents (Elt F) → (⟨S_, .f32⟩ : BufTy).Contents (Elt F)),
    unary main_v20 main_v21 (broadcastInDim S21 ![] bcast_S_S21 : (⟨S_, .f32⟩ : BufTy).Contents (Elt F) → (⟨S21, .f32⟩ : BufTy).Contents (Elt F)),
    binary main_v19 main_v21 main_v22 (mulf : (⟨S21, .f32⟩ : BufTy).Contents (Elt F) → (⟨S21, .f32⟩ : BufTy).Contents (Elt F) → (⟨S21, .f32⟩ : BufTy).Contents (Elt F)),
    unary main_v17 main_v23 (broadcastInDim S21 ![] bcast_S_S21 : (⟨S_, .f32⟩ : BufTy).Contents (Elt F) → (⟨S21, .f32⟩ : BufTy).Contents (Elt F)),
    binary main_v23 main_v22 main_v24 (addf : (⟨S21, .f32⟩ : BufTy).Contents (Elt F) → (⟨S21, .f32⟩ : BufTy).Contents (Elt F) → (⟨S21, .f32⟩ : BufTy).Contents (Elt F)),
    binary main_arg1 main_v12 main_v25 (cmpi .eq : (⟨S65536, .i32⟩ : BufTy).Contents (Elt F) → (⟨S65536, .i32⟩ : BufTy).Contents (Elt F) → (⟨S65536, .i1⟩ : BufTy).Contents (Elt F)),
    unary main_v16 main_v26 (Host.tanh : (⟨S65536, .f32⟩ : BufTy).Contents (Elt F) → (⟨S65536, .f32⟩ : BufTy).Contents (Elt F)) ]

/-- @main's operations 61 … 88 of 187 (window `main_part0`). -/
abbrev ops_part0_2 : List (HloOp τ sig (Elt F)) :=
  [ unary main_v16 main_v27 (broadcastInDim S1x65536 ![1] bcast_S65536_S1x65536_1 : (⟨S65536, .f32⟩ : BufTy).Contents (Elt F) → (⟨S1x65536, .f32⟩ : BufTy).Contents (Elt F)),
    unary main_v24 main_v28 (broadcastInDim S21x1 ![0] bcast_S21_S21x1_0 : (⟨S21, .f32⟩ : BufTy).Contents (Elt F) → (⟨S21x1, .f32⟩ : BufTy).Contents (Elt F)),
    unary main_v27 main_v29 (broadcastInDim S21x65536 ![0, 1] bcast_S1x65536_S21x65536_0_1 : (⟨S1x65536, .f32⟩ : BufTy).Contents (Elt F) → (⟨S21x65536, .f32⟩ : BufTy).Contents (Elt F)),
    unary main_v28 main_v30 (broadcastInDim S21x65536 ![0, 1] bcast_S21x1_S21x65536_0_1 : (⟨S21x1, .f32⟩ : BufTy).Contents (Elt F) → (⟨S21x65536, .f32⟩ : BufTy).Contents (Elt F)),
    binary main_v29 main_v30 main_v31 (cmpf .ole : (⟨S21x65536, .f32⟩ : BufTy).Contents (Elt F) → (⟨S21x65536, .f32⟩ : BufTy).Contents (Elt F) → (⟨S21x65536, .i1⟩ : BufTy).Contents (Elt F)),
    unary main_v25 main_v32 (broadcastInDim S1x65536 ![1] bcast_S65536_S1x65536_1 : (⟨S65536, .i1⟩ : BufTy).Contents (Elt F) → (⟨S1x65536, .i1⟩ : BufTy).Contents (Elt F)),
    unary main_v32 main_v33 (broadcastInDim S21x65536 ![0, 1] bcast_S1x65536_S21x65536_0_1 : (⟨S1x65536, .i1⟩ : BufTy).Contents (Elt F) → (⟨S21x65536, .i1⟩ : BufTy).Contents (Elt F)),
    binary main_v33 main_v31 main_v34 (andi : (⟨S21x65536, .i1⟩ : BufTy).Contents (Elt F) → (⟨S21x65536, .i1⟩ : BufTy).Contents (Elt F) → (⟨S21x65536, .i1⟩ : BufTy).Contents (Elt F)),
    nullary main_cst_8 (constant S_ .f32 0x3F800000#32),
    unary main_cst_8 main_v35 (broadcastInDim S65536 ![] bcast_S_S65536 : (⟨S_, .f32⟩ : BufTy).Contents (Elt F) → (⟨S65536, .f32⟩ : BufTy).Contents (Elt F)),
    binary main_v35 main_v26 main_v36 (subf : (⟨S65536, .f32⟩ : BufTy).Contents (Elt F) → (⟨S65536, .f32⟩ : BufTy).Contents (Elt F) → (⟨S65536, .f32⟩ : BufTy).Contents (Elt F)),
    binary main_v11 main_v36 main_v37 (mulf : (⟨S65536, .f32⟩ : BufTy).Contents (Elt F) → (⟨S65536, .f32⟩ : BufTy).Contents (Elt F) → (⟨S65536, .f32⟩ : BufTy).Contents (Elt F)),
    nullary main_cst_9 (constant S_ .f32 0x00000000#32),
    TRef.unary (TRef.of (T := ⟨S65536, .f32⟩) main_v37) (TRef.of (T := ⟨S21x65536, .f32⟩) main_call2_v0) (broadcastInDim S21x65536 ![1] bcast_S65536_S21x65536_1),
    TRef.unary (TRef.of (T := ⟨S_, .f32⟩) main_cst_9) (TRef.of (T := ⟨S21x65536, .f32⟩) main_call2_v1) (broadcastInDim S21x65536 ![] bcast_S_S21x65536),
    TRef.ternary (TRef.of (T := ⟨S21x65536, .i1⟩) main_v34) (TRef.of (T := ⟨S21x65536, .f32⟩) main_call2_v0) (TRef.of (T := ⟨S21x65536, .f32⟩) main_call2_v1) (TRef.of (T := ⟨S21x65536, .f32⟩) main_v38) select,
    nullary main_cst_10 (constant S_ .f32 0x00000000#32),
    binary main_v38 main_cst_10 main_v39 ((fun x v => Host.reduceAdd x v reducesTo_S21x65536_S21_d1 h_S_) : (⟨S21x65536, .f32⟩ : BufTy).Contents (Elt F) → (⟨S_, .f32⟩ : BufTy).Contents (Elt F) → (⟨S21, .f32⟩ : BufTy).Contents (Elt F)),
    unary main_v31 main_v40 (noti : (⟨S21x65536, .i1⟩ : BufTy).Contents (Elt F) → (⟨S21x65536, .i1⟩ : BufTy).Contents (Elt F)),
    unary main_v32 main_v41 (broadcastInDim S21x65536 ![0, 1] bcast_S1x65536_S21x65536_0_1 : (⟨S1x65536, .i1⟩ : BufTy).Contents (Elt F) → (⟨S21x65536, .i1⟩ : BufTy).Contents (Elt F)),
    binary main_v41 main_v40 main_v42 (andi : (⟨S21x65536, .i1⟩ : BufTy).Contents (Elt F) → (⟨S21x65536, .i1⟩ : BufTy).Contents (Elt F) → (⟨S21x65536, .i1⟩ : BufTy).Contents (Elt F)),
    binary main_v11 main_v26 main_v43 (mulf : (⟨S65536, .f32⟩ : BufTy).Contents (Elt F) → (⟨S65536, .f32⟩ : BufTy).Contents (Elt F) → (⟨S65536, .f32⟩ : BufTy).Contents (Elt F)),
    nullary main_cst_11 (constant S_ .f32 0x00000000#32),
    TRef.unary (TRef.of (T := ⟨S65536, .f32⟩) main_v43) (TRef.of (T := ⟨S21x65536, .f32⟩) main_call3_v0) (broadcastInDim S21x65536 ![1] bcast_S65536_S21x65536_1),
    TRef.unary (TRef.of (T := ⟨S_, .f32⟩) main_cst_11) (TRef.of (T := ⟨S21x65536, .f32⟩) main_call3_v1) (broadcastInDim S21x65536 ![] bcast_S_S21x65536),
    TRef.ternary (TRef.of (T := ⟨S21x65536, .i1⟩) main_v42) (TRef.of (T := ⟨S21x65536, .f32⟩) main_call3_v0) (TRef.of (T := ⟨S21x65536, .f32⟩) main_call3_v1) (TRef.of (T := ⟨S21x65536, .f32⟩) main_v44) select,
    nullary main_cst_12 (constant S_ .f32 0x00000000#32),
    binary main_v44 main_cst_12 main_v45 ((fun x v => Host.reduceAdd x v reducesTo_S21x65536_S21_d1 h_S_) : (⟨S21x65536, .f32⟩ : BufTy).Contents (Elt F) → (⟨S_, .f32⟩ : BufTy).Contents (Elt F) → (⟨S21, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 89 … 118 of 187 (window `main_part1`). -/
abbrev ops_part1_0 : List (HloOp τ sig (Elt F)) :=
  [ unary main_v32 main_v46 (noti : (⟨S1x65536, .i1⟩ : BufTy).Contents (Elt F) → (⟨S1x65536, .i1⟩ : BufTy).Contents (Elt F)),
    unary main_v46 main_v47 (broadcastInDim S21x65536 ![0, 1] bcast_S1x65536_S21x65536_0_1 : (⟨S1x65536, .i1⟩ : BufTy).Contents (Elt F) → (⟨S21x65536, .i1⟩ : BufTy).Contents (Elt F)),
    binary main_v47 main_v31 main_v48 (andi : (⟨S21x65536, .i1⟩ : BufTy).Contents (Elt F) → (⟨S21x65536, .i1⟩ : BufTy).Contents (Elt F) → (⟨S21x65536, .i1⟩ : BufTy).Contents (Elt F)),
    nullary main_cst_13 (constant S_ .f32 0x3F800000#32),
    unary main_cst_13 main_v49 (broadcastInDim S65536 ![] bcast_S_S65536 : (⟨S_, .f32⟩ : BufTy).Contents (Elt F) → (⟨S65536, .f32⟩ : BufTy).Contents (Elt F)),
    binary main_v49 main_v11 main_v50 (subf : (⟨S65536, .f32⟩ : BufTy).Contents (Elt F) → (⟨S65536, .f32⟩ : BufTy).Contents (Elt F) → (⟨S65536, .f32⟩ : BufTy).Contents (Elt F)),
    nullary main_cst_14 (constant S_ .f32 0x3F800000#32),
    unary main_cst_14 main_v51 (broadcastInDim S65536 ![] bcast_S_S65536 : (⟨S_, .f32⟩ : BufTy).Contents (Elt F) → (⟨S65536, .f32⟩ : BufTy).Contents (Elt F)),
    binary main_v51 main_v26 main_v52 (subf : (⟨S65536, .f32⟩ : BufTy).Contents (Elt F) → (⟨S65536, .f32⟩ : BufTy).Contents (Elt F) → (⟨S65536, .f32⟩ : BufTy).Contents (Elt F)),
    binary main_v50 main_v52 main_v53 (mulf : (⟨S65536, .f32⟩ : BufTy).Contents (Elt F) → (⟨S65536, .f32⟩ : BufTy).Contents (Elt F) → (⟨S65536, .f32⟩ : BufTy).Contents (Elt F)),
    nullary main_cst_15 (constant S_ .f32 0x00000000#32),
    TRef.unary (TRef.of (T := ⟨S65536, .f32⟩) main_v53) (TRef.of (T := ⟨S21x65536, .f32⟩) main_call4_v0) (broadcastInDim S21x65536 ![1] bcast_S65536_S21x65536_1),
    TRef.unary (TRef.of (T := ⟨S_, .f32⟩) main_cst_15) (TRef.of (T := ⟨S21x65536, .f32⟩) main_call4_v1) (broadcastInDim S21x65536 ![] bcast_S_S21x65536),
    TRef.ternary (TRef.of (T := ⟨S21x65536, .i1⟩) main_v48) (TRef.of (T := ⟨S21x65536, .f32⟩) main_call4_v0) (TRef.of (T := ⟨S21x65536, .f32⟩) main_call4_v1) (TRef.of (T := ⟨S21x65536, .f32⟩) main_v54) select,
    nullary main_cst_16 (constant S_ .f32 0x00000000#32),
    binary main_v54 main_cst_16 main_v55 ((fun x v => Host.reduceAdd x v reducesTo_S21x65536_S21_d1 h_S_) : (⟨S21x65536, .f32⟩ : BufTy).Contents (Elt F) → (⟨S_, .f32⟩ : BufTy).Contents (Elt F) → (⟨S21, .f32⟩ : BufTy).Contents (Elt F)),
    unary main_v32 main_v56 (noti : (⟨S1x65536, .i1⟩ : BufTy).Contents (Elt F) → (⟨S1x65536, .i1⟩ : BufTy).Contents (Elt F)),
    unary main_v31 main_v57 (noti : (⟨S21x65536, .i1⟩ : BufTy).Contents (Elt F) → (⟨S21x65536, .i1⟩ : BufTy).Contents (Elt F)),
    unary main_v56 main_v58 (broadcastInDim S21x65536 ![0, 1] bcast_S1x65536_S21x65536_0_1 : (⟨S1x65536, .i1⟩ : BufTy).Contents (Elt F) → (⟨S21x65536, .i1⟩ : BufTy).Contents (Elt F)),
    binary main_v58 main_v57 main_v59 (andi : (⟨S21x65536, .i1⟩ : BufTy).Contents (Elt F) → (⟨S21x65536, .i1⟩ : BufTy).Contents (Elt F) → (⟨S21x65536, .i1⟩ : BufTy).Contents (Elt F)),
    nullary main_cst_17 (constant S_ .f32 0x3F800000#32),
    unary main_cst_17 main_v60 (broadcastInDim S65536 ![] bcast_S_S65536 : (⟨S_, .f32⟩ : BufTy).Contents (Elt F) → (⟨S65536, .f32⟩ : BufTy).Contents (Elt F)),
    binary main_v60 main_v11 main_v61 (subf : (⟨S65536, .f32⟩ : BufTy).Contents (Elt F) → (⟨S65536, .f32⟩ : BufTy).Contents (Elt F) → (⟨S65536, .f32⟩ : BufTy).Contents (Elt F)),
    binary main_v61 main_v26 main_v62 (mulf : (⟨S65536, .f32⟩ : BufTy).Contents (Elt F) → (⟨S65536, .f32⟩ : BufTy).Contents (Elt F) → (⟨S65536, .f32⟩ : BufTy).Contents (Elt F)),
    nullary main_cst_18 (constant S_ .f32 0x00000000#32),
    TRef.unary (TRef.of (T := ⟨S65536, .f32⟩) main_v62) (TRef.of (T := ⟨S21x65536, .f32⟩) main_call5_v0) (broadcastInDim S21x65536 ![1] bcast_S65536_S21x65536_1),
    TRef.unary (TRef.of (T := ⟨S_, .f32⟩) main_cst_18) (TRef.of (T := ⟨S21x65536, .f32⟩) main_call5_v1) (broadcastInDim S21x65536 ![] bcast_S_S21x65536),
    TRef.ternary (TRef.of (T := ⟨S21x65536, .i1⟩) main_v59) (TRef.of (T := ⟨S21x65536, .f32⟩) main_call5_v0) (TRef.of (T := ⟨S21x65536, .f32⟩) main_call5_v1) (TRef.of (T := ⟨S21x65536, .f32⟩) main_v63) select,
    nullary main_cst_19 (constant S_ .f32 0x00000000#32),
    binary main_v63 main_cst_19 main_v64 ((fun x v => Host.reduceAdd x v reducesTo_S21x65536_S21_d1 h_S_) : (⟨S21x65536, .f32⟩ : BufTy).Contents (Elt F) → (⟨S_, .f32⟩ : BufTy).Contents (Elt F) → (⟨S21, .f32⟩ : BufTy).Contents (Elt F)) ]

/-- @main's operations 119 … 148 of 187 (window `main_part1`). -/
abbrev ops_part1_1 : List (HloOp τ sig (Elt F)) :=
  [ binary main_v39 main_v64 main_v65 (addf : (⟨S21, .f32⟩ : BufTy).Contents (Elt F) → (⟨S21, .f32⟩ : BufTy).Contents (Elt F) → (⟨S21, .f32⟩ : BufTy).Contents (Elt F)),
    binary main_v39 main_v45 main_v66 (addf : (⟨S21, .f32⟩ : BufTy).Contents (Elt F) → (⟨S21, .f32⟩ : BufTy).Contents (Elt F) → (⟨S21, .f32⟩ : BufTy).Contents (Elt F)),
    binary main_v66 main_v55 main_v67 (addf : (⟨S21, .f32⟩ : BufTy).Contents (Elt F) → (⟨S21, .f32⟩ : BufTy).Contents (Elt F) → (⟨S21, .f32⟩ : BufTy).Contents (Elt F)),
    binary main_v67 main_v64 main_v68 (addf : (⟨S21, .f32⟩ : BufTy).Contents (Elt F) → (⟨S21, .f32⟩ : BufTy).Contents (Elt F) → (⟨S21, .f32⟩ : BufTy).Contents (Elt F)),
    nullary main_cst_20 (constant S_ .f32 0x2B8CBCCC#32),
    unary main_cst_20 main_v69 (broadcastInDim S21 ![] bcast_S_S21 : (⟨S_, .f32⟩ : BufTy).Contents (Elt F) → (⟨S21, .f32⟩ : BufTy).Contents (Elt F)),
    binary main_v68 main_v69 main_v70 (addf : (⟨S21, .f32⟩ : BufTy).Contents (Elt F) → (⟨S21, .f32⟩ : BufTy).Contents (Elt F) → (⟨S21, .f32⟩ : BufTy).Contents (Elt F)),
    binary main_v65 main_v70 main_v71 (Host.divf : (⟨S21, .f32⟩ : BufTy).Contents (Elt F) → (⟨S21, .f32⟩ : BufTy).Contents (Elt F) → (⟨S21, .f32⟩ : BufTy).Contents (Elt F)),
    unary main_v71 main_v72 ((extractStridedSlice S20 ![1] · slices_S21_S20_1) : (⟨S21, .f32⟩ : BufTy).Contents (Elt F) → (⟨S20, .f32⟩ : BufTy).Contents (Elt F)),
    unary main_v71 main_v73 ((extractStridedSlice S20 ![0] · slices_S21_S20_0) : (⟨S21, .f32⟩ : BufTy).Contents (Elt F) → (⟨S20, .f32⟩ : BufTy).Contents (Elt F)),
    binary main_v72 main_v73 main_v74 (addf : (⟨S20, .f32⟩ : BufTy).Contents (Elt F) → (⟨S20, .f32⟩ : BufTy).Contents (Elt F) → (⟨S20, .f32⟩ : BufTy).Contents (Elt F)),
    unary main_v19 main_v75 ((extractStridedSlice S20 ![1] · slices_S21_S20_1) : (⟨S21, .f32⟩ : BufTy).Contents (Elt F) → (⟨S20, .f32⟩ : BufTy).Contents (Elt F)),
    unary main_v19 main_v76 ((extractStridedSlice S20 ![0] · slices_S21_S20_0) : (⟨S21, .f32⟩ : BufTy).Contents (Elt F) → (⟨S20, .f32⟩ : BufTy).Contents (Elt F)),
    binary main_v75 main_v76 main_v77 (subf : (⟨S20, .f32⟩ : BufTy).Contents (Elt F) → (⟨S20, .f32⟩ : BufTy).Contents (Elt F) → (⟨S20, .f32⟩ : BufTy).Contents (Elt F)),
    binary main_v74 main_v77 main_v78 (mulf : (⟨S20, .f32⟩ : BufTy).Contents (Elt F) → (⟨S20, .f32⟩ : BufTy).Contents (Elt F) → (⟨S20, .f32⟩ : BufTy).Contents (Elt F)),
    nullary main_cst_21 (constant S_ .f32 0x00000000#32),
    binary main_v78 main_cst_21 main_v79 ((fun x v => Host.reduceAdd x v reducesTo_S20_S_d0 h_S_) : (⟨S20, .f32⟩ : BufTy).Contents (Elt F) → (⟨S_, .f32⟩ : BufTy).Contents (Elt F) → (⟨S_, .f32⟩ : BufTy).Contents (Elt F)),
    nullary main_cst_22 (constant S_ .f32 0x3F000000#32),
    binary main_cst_22 main_v79 main_v80 (mulf : (⟨S_, .f32⟩ : BufTy).Contents (Elt F) → (⟨S_, .f32⟩ : BufTy).Contents (Elt F) → (⟨S_, .f32⟩ : BufTy).Contents (Elt F)),
    nullary main_cst_23 (constant S_ .f32 0x2B8CBCCC#32),
    binary main_v80 main_cst_23 main_v81 (addf : (⟨S_, .f32⟩ : BufTy).Contents (Elt F) → (⟨S_, .f32⟩ : BufTy).Contents (Elt F) → (⟨S_, .f32⟩ : BufTy).Contents (Elt F)),
    unary main_v81 main_v82 (Host.log : (⟨S_, .f32⟩ : BufTy).Contents (Elt F) → (⟨S_, .f32⟩ : BufTy).Contents (Elt F)),
    nullary main_cst_24 (constant S_ .f32 0xC0400000#32),
    binary main_cst_24 main_v82 main_v83 (mulf : (⟨S_, .f32⟩ : BufTy).Contents (Elt F) → (⟨S_, .f32⟩ : BufTy).Contents (Elt F) → (⟨S_, .f32⟩ : BufTy).Contents (Elt F)),
    TRef.nullary (TRef.of (T := ⟨S_, .f32⟩) main_call6_cst) (constant S_ .f32 0xFF800000#32),
    TRef.binary (TRef.of (T := ⟨S65536x1000, .f32⟩) main_arg0) (TRef.of (T := ⟨S_, .f32⟩) main_call6_cst) (TRef.of (T := ⟨S65536, .f32⟩) main_call6_v0) (fun x v => Host.reduce FloatOps.maximumf x v reducesTo_S65536x1000_S65536_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S65536, .f32⟩) main_call6_v1) (broadcastInDim S65536 ![] bcast_S_S65536),
    TRef.binary (TRef.of (T := ⟨S65536, .f32⟩) main_call6_v1) (TRef.of (T := ⟨S65536, .f32⟩) main_call6_v0) (TRef.of (T := ⟨S65536, .f32⟩) main_call6_v2) maximumf,
    TRef.unary (TRef.of (T := ⟨S65536, .f32⟩) main_call6_v2) (TRef.of (T := ⟨S65536x1, .f32⟩) main_call6_v3) (broadcastInDim S65536x1 ![0] bcast_S65536_S65536x1_0) ]

/-- @main's operations 149 … 178 of 187 (window `main_part1`). -/
abbrev ops_part1_2 : List (HloOp τ sig (Elt F)) :=
  [ TRef.unary (TRef.of (T := ⟨S65536x1, .f32⟩) main_call6_v3) (TRef.of (T := ⟨S65536x1000, .f32⟩) main_call6_v4) (broadcastInDim S65536x1000 ![0, 1] bcast_S65536x1_S65536x1000_0_1),
    TRef.binary (TRef.of (T := ⟨S65536x1000, .f32⟩) main_arg0) (TRef.of (T := ⟨S65536x1000, .f32⟩) main_call6_v4) (TRef.of (T := ⟨S65536x1000, .f32⟩) main_call6_v5) subf,
    TRef.unary (TRef.of (T := ⟨S65536x1000, .f32⟩) main_call6_v5) (TRef.of (T := ⟨S65536x1000, .f32⟩) main_call6_v6) Host.exp,
    TRef.nullary (TRef.of (T := ⟨S_, .f32⟩) main_call6_cst_1) (constant S_ .f32 0x00000000#32),
    TRef.binary (TRef.of (T := ⟨S65536x1000, .f32⟩) main_call6_v6) (TRef.of (T := ⟨S_, .f32⟩) main_call6_cst_1) (TRef.of (T := ⟨S65536, .f32⟩) main_call6_v7) (fun x v => Host.reduceAdd x v reducesTo_S65536x1000_S65536_d1 h_S_),
    TRef.unary (TRef.of (T := ⟨S65536, .f32⟩) main_call6_v7) (TRef.of (T := ⟨S65536x1, .f32⟩) main_call6_v8) (broadcastInDim S65536x1 ![0] bcast_S65536_S65536x1_0),
    TRef.unary (TRef.of (T := ⟨S65536x1, .f32⟩) main_call6_v8) (TRef.of (T := ⟨S65536x1, .f32⟩) main_call6_v9) Host.log,
    TRef.unary (TRef.of (T := ⟨S65536x1, .f32⟩) main_call6_v9) (TRef.of (T := ⟨S65536x1000, .f32⟩) main_call6_v10) (broadcastInDim S65536x1000 ![0, 1] bcast_S65536x1_S65536x1000_0_1),
    TRef.binary (TRef.of (T := ⟨S65536x1000, .f32⟩) main_call6_v5) (TRef.of (T := ⟨S65536x1000, .f32⟩) main_call6_v10) (TRef.of (T := ⟨S65536x1000, .f32⟩) main_v84) subf,
    unary main_arg1 main_v85 (broadcastInDim S65536x1 ![0] bcast_S65536_S65536x1_0 : (⟨S65536, .i32⟩ : BufTy).Contents (Elt F) → (⟨S65536x1, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S65536x1, .i32⟩) main_call7_v0) (broadcastInDim S65536x1 ![] bcast_S_S65536x1),
    TRef.binary (TRef.of (T := ⟨S65536x1, .i32⟩) main_v85) (TRef.of (T := ⟨S65536x1, .i32⟩) main_call7_v0) (TRef.of (T := ⟨S65536x1, .i1⟩) main_call7_v1) (cmpi .slt),
    TRef.nullary (TRef.of (T := ⟨S_, .i32⟩) main_call7_c_0) (constantI S_ 32 1000#32),
    TRef.unary (TRef.of (T := ⟨S_, .i32⟩) main_call7_c_0) (TRef.of (T := ⟨S65536x1, .i32⟩) main_call7_v2) (broadcastInDim S65536x1 ![] bcast_S_S65536x1),
    TRef.binary (TRef.of (T := ⟨S65536x1, .i32⟩) main_v85) (TRef.of (T := ⟨S65536x1, .i32⟩) main_call7_v2) (TRef.of (T := ⟨S65536x1, .i32⟩) main_call7_v3) addi,
    TRef.ternary (TRef.of (T := ⟨S65536x1, .i1⟩) main_call7_v1) (TRef.of (T := ⟨S65536x1, .i32⟩) main_call7_v3) (TRef.of (T := ⟨S65536x1, .i32⟩) main_v85) (TRef.of (T := ⟨S65536x1, .i32⟩) main_call7_v4) select,
    TRef.reshape (TRef.of (T := ⟨S65536x1, .i32⟩) main_call7_v4) (TRef.of (T := ⟨S65536x1x1, .i32⟩) main_call7_v5) (rfl : (.i32 : EltTy) = .i32) shapeCasts_S65536x1_S65536x1x1,
    TRef.nullary (TRef.of (T := ⟨S1, .i32⟩) main_call7_c_1) (constantI S1 32 999#32),
    TRef.nullary (TRef.of (T := ⟨S_, .i32⟩) main_call7_c_2) (constantI S_ 32 0#32),
    TRef.unary (TRef.of (T := ⟨S_, .i32⟩) main_call7_c_2) (TRef.of (T := ⟨S65536x1x1, .i32⟩) main_call7_v6) (broadcastInDim S65536x1x1 ![] bcast_S_S65536x1x1),
    TRef.binary (TRef.of (T := ⟨S65536x1x1, .i32⟩) main_call7_v5) (TRef.of (T := ⟨S65536x1x1, .i32⟩) main_call7_v6) (TRef.of (T := ⟨S65536x1x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S65536x1x1, .i32⟩) main_call7_v9) (broadcastInDim S65536x1x1 ![0, 1, 2] bcast_S1x1x1_S65536x1x1_0_1_2),
    TRef.binary (TRef.of (T := ⟨S65536x1x1, .i32⟩) main_call7_v5) (TRef.of (T := ⟨S65536x1x1, .i32⟩) main_call7_v9) (TRef.of (T := ⟨S65536x1x1, .i1⟩) main_call7_v10) (cmpi .sle),
    TRef.binary (TRef.of (T := ⟨S65536x1x1, .i1⟩) main_call7_v7) (TRef.of (T := ⟨S65536x1x1, .i1⟩) main_call7_v10) (TRef.of (T := ⟨S65536x1x1, .i1⟩) main_call7_v11) andi,
    TRef.nullary (TRef.of (T := ⟨S_, .i1⟩) main_call7_c_3) (constantI S_ 1 1#1),
    TRef.binary (TRef.of (T := ⟨S65536x1x1, .i1⟩) main_call7_v11) (TRef.of (T := ⟨S_, .i1⟩) main_call7_c_3) (TRef.of (T := ⟨S65536x1, .i1⟩) main_call7_v12) (fun x v => Host.reduce IntOp.andi x v reducesTo_S65536x1x1_S65536x1_d2 h_S_),
    TRef.binary (TRef.of (T := ⟨S65536x1000, .f32⟩) main_v84) (TRef.of (T := ⟨S65536x1x1, .i32⟩) main_call7_v5) (TRef.of (T := ⟨S65536x1, .f32⟩) main_call7_v13) (fun x i => Host.gather gather_S65536x1000_S65536x1x1_S65536x1_n_1_0_0_1_2_11 x i),
    TRef.nullary (TRef.of (T := ⟨S_, .f32⟩) main_call7_cst) (constant S_ .f32 0x7FC00000#32) ]

/-- @main's operations 179 … 187 of 187 (window `main_part1`). -/
abbrev ops_part1_3 : List (HloOp τ sig (Elt F)) :=
  [ TRef.unary (TRef.of (T := ⟨S_, .f32⟩) main_call7_cst) (TRef.of (T := ⟨S65536x1, .f32⟩) main_call7_v14) (broadcastInDim S65536x1 ![] bcast_S_S65536x1),
    TRef.ternary (TRef.of (T := ⟨S65536x1, .i1⟩) main_call7_v12) (TRef.of (T := ⟨S65536x1, .f32⟩) main_call7_v13) (TRef.of (T := ⟨S65536x1, .f32⟩) main_call7_v14) (TRef.of (T := ⟨S65536x1, .f32⟩) main_v86) select,
    nullary main_cst_25 (constant S_ .f32 0x00000000#32),
    binary main_v86 main_cst_25 main_v87 ((fun x v => Host.reduceAdd x v reducesTo_S65536x1_S_d0_1 h_S_) : (⟨S65536x1, .f32⟩ : BufTy).Contents (Elt F) → (⟨S_, .f32⟩ : BufTy).Contents (Elt F) → (⟨S_, .f32⟩ : BufTy).Contents (Elt F)),
    nullary main_cst_26 (constant S_ .f32 0x47800000#32),
    binary main_v87 main_cst_26 main_v88 (Host.divf : (⟨S_, .f32⟩ : BufTy).Contents (Elt F) → (⟨S_, .f32⟩ : BufTy).Contents (Elt F) → (⟨S_, .f32⟩ : BufTy).Contents (Elt F)),
    unary main_v88 main_v89 (Host.negf : (⟨S_, .f32⟩ : BufTy).Contents (Elt F) → (⟨S_, .f32⟩ : BufTy).Contents (Elt F)),
    binary main_v83 main_v89 main_v90 (addf : (⟨S_, .f32⟩ : BufTy).Contents (Elt F) → (⟨S_, .f32⟩ : BufTy).Contents (Elt F) → (⟨S_, .f32⟩ : BufTy).Contents (Elt F)),
    unary main_v90 main_v91 (broadcastInDim S1 ![] bcast_S_S1 : (⟨S_, .f32⟩ : BufTy).Contents (Elt F) → (⟨S1, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- No operation of @main: window `main_part2` only returns. -/
abbrev ops_part2 : List (HloOp τ sig (Elt F)) :=
  []

/-- @main's 187 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., nullary_bufs_sub .., nullary_bufs_sub .., quaternary_bufs_sub .., quaternary_bufs_sub .., unary_bufs_sub .., binary_bufs_sub .., nullary_bufs_sub .., binary_bufs_sub .., unary_bufs_sub .., nullary_bufs_sub .., binary_bufs_sub .., nullary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., binary_bufs_sub .., unary_bufs_sub .., binary_bufs_sub .., unary_bufs_sub .., binary_bufs_sub .., binary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., nullary_bufs_sub .., unary_bufs_sub .., unary_bufs_sub .., ternary_bufs_sub .., nullary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., unary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub .., nullary_bufs_sub .., binary_bufs_sub .., nullary_bufs_sub .., binary_bufs_sub .., nullary_bufs_sub .., unary_bufs_sub .., binary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨unary_bufs_sub .., ternary_bufs_sub .., nullary_bufs_sub .., binary_bufs_sub .., nullary_bufs_sub .., binary_bufs_sub .., unary_bufs_sub .., binary_bufs_sub .., unary_bufs_sub ..⟩
set_option maxRecDepth 8192 in
theorem ops_part1_3_fresh : (ops_part1_3 : List (HloOp τ sig (Elt F))).Forall fun op => op.fresh = ∅ :=
  ⟨rfl, rfl, rfl, rfl, rfl, rfl, rfl, rfl, rfl⟩
set_option maxRecDepth 8192 in
theorem ops_part2_sub : (ops_part2 : List (HloOp τ sig (Elt F))).Forall fun op => op.bufs ⊆ tcRefs τ sig :=
  trivial
set_option maxRecDepth 8192 in
theorem ops_part2_fresh : (ops_part2 : List (HloOp τ sig (Elt F))).Forall fun op => op.fresh = ∅ :=
  trivial
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part2_fresh op h]

set_option maxRecDepth 8192 in
/-- `main_v6`'s composed term of the arguments (named: it is used 2 times). -/
def res_main_v6 (V0 : Valuation τ sig (Elt F)) : (Proc.devRef .tc main_v6 : DevRef τ sig).ty.Contents (Elt F) :=
  Host.exp (subf (V0 (Proc.devRef .tc main_arg0)) (broadcastInDim S65536x1000 ![0, 1] bcast_S65536x1_S65536x1000_0_1 (broadcastInDim S65536x1 ![0] bcast_S65536_S65536x1_0 (maximumf (broadcastInDim S65536 ![] bcast_S_S65536 (constant S_ .f32 0xFF800000#32)) (Host.reduce FloatOps.maximumf (V0 (Proc.devRef .tc main_arg0)) (constant S_ .f32 0xFF800000#32) reducesTo_S65536x1000_S65536_d1 h_S_)))))

set_option maxRecDepth 8192 in
/-- `main_v10`'s composed term of the arguments (named: it is used 5 times). -/
def res_main_v10 (V0 : Valuation τ sig (Elt F)) : (Proc.devRef .tc main_v10 : DevRef τ sig).ty.Contents (Elt F) :=
  Host.divf (res_main_v6 V0) (broadcastInDim S65536x1000 ![0, 1] bcast_S65536x1_S65536x1000_0_1 (broadcastInDim S65536x1 ![0] bcast_S65536_S65536x1_0 (Host.reduceAdd (res_main_v6 V0) (constant S_ .f32 0x00000000#32) reducesTo_S65536x1000_S65536_d1 h_S_)))

set_option maxRecDepth 8192 in
/-- `main_v11`'s composed term of the arguments (named: it is used 4 times). -/
def res_main_v11 (V0 : Valuation τ sig (Elt F)) : (Proc.devRef .tc main_v11 : DevRef τ sig).ty.Contents (Elt F) :=
  Host.reduce FloatOps.maximumf (res_main_v10 V0) (constant S_ .f32 0xFF800000#32) reducesTo_S65536x1000_S65536_d1 h_S_

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S65536x1000 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v16`'s composed term of the arguments (named: it is used 4 times). -/
def res_main_v16 (V0 : Valuation τ sig (Elt F)) : (Proc.devRef .tc main_v16 : DevRef τ sig).ty.Contents (Elt F) :=
  Host.negf (Host.reduceAdd (mulf (res_main_v10 V0) (Host.log (res_main_v10 V0))) (constant S_ .f32 0x00000000#32) reducesTo_S65536x1000_S65536_d1 h_S_)

set_option maxRecDepth 8192 in
/-- `main_v17`'s composed term of the arguments (named: it is used 2 times). -/
def res_main_v17 (V0 : Valuation τ sig (Elt F)) : (Proc.devRef .tc main_v17 : DevRef τ sig).ty.Contents (Elt F) :=
  Host.reduce FloatOps.minimumf (res_main_v16 V0) (constant S_ .f32 0x7F800000#32) reducesTo_S65536_S_d0 h_S_

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  id (constant S_ .f32 0x00000000#32)

set_option maxRecDepth 8192 in
/-- `main_call1_v1`'s composed term of the arguments (named: it is used 3 times). -/
def res_main_call1_v1 (V0 : Valuation τ sig (Elt F)) : (Proc.devRef .tc main_call1_v1 : DevRef τ sig).ty.Contents (Elt F) :=
  id (constant S_ .f32 0x3F800000#32)

set_option maxRecDepth 8192 in
/-- `main_call1_v6`'s composed term of the arguments (named: it is used 2 times). -/
def res_main_call1_v6 (V0 : Valuation τ sig (Elt F)) : (Proc.devRef .tc main_call1_v6 : DevRef τ sig).ty.Contents (Elt F) :=
  Host.divf (sitofp .f32 (iotaInDim S20 32 0)) (broadcastInDim S20 ![] bcast_S_S20 (constant S_ .f32 0x41A00000#32))

set_option maxRecDepth 8192 in
/-- `main_v19`'s composed term of the arguments (named: it is used 3 times). -/
def res_main_v19 (V0 : Valuation τ sig (Elt F)) : (Proc.devRef .tc main_v19 : DevRef τ sig).ty.Contents (Elt F) :=
  concatenate S21 0 [⟨S20, (addf (mulf (broadcastInDim S20 ![0] bcast_S1_S20_0 (shapeCast _ (res_main_call1_v0 V0) shapeCasts_S_S1)) (subf (broadcastInDim S20 ![] bcast_S_S20 (constant S_ .f32 0x3F800000#32)) (res_main_call1_v6 V0))) (mulf (broadcastInDim S20 ![0] bcast_S1_S20_0 (shapeCast _ (res_main_call1_v1 V0) shapeCasts_S_S1)) (res_main_call1_v6 V0)))⟩, ⟨S1, (broadcastInDim S1 ![] bcast_S_S1 (res_main_call1_v1 V0))⟩] concatenates_S20_S1_S21_d0

set_option maxRecDepth 8192 in
/-- `main_v26`'s composed term of the arguments (named: it is used 4 times). -/
def res_main_v26 (V0 : Valuation τ sig (Elt F)) : (Proc.devRef .tc main_v26 : DevRef τ sig).ty.Contents (Elt F) :=
  Host.tanh (res_main_v16 V0)

set_option maxRecDepth 8192 in
/-- `main_v31`'s composed term of the arguments (named: it is used 4 times). -/
def res_main_v31 (V0 : Valuation τ sig (Elt F)) : (Proc.devRef .tc main_v31 : DevRef τ sig).ty.Contents (Elt F) :=
  cmpf .ole (broadcastInDim S21x65536 ![0, 1] bcast_S1x65536_S21x65536_0_1 (broadcastInDim S1x65536 ![1] bcast_S65536_S1x65536_1 (res_main_v16 V0))) (broadcastInDim S21x65536 ![0, 1] bcast_S21x1_S21x65536_0_1 (broadcastInDim S21x1 ![0] bcast_S21_S21x1_0 (addf (broadcastInDim S21 ![] bcast_S_S21 (res_main_v17 V0)) (mulf (res_main_v19 V0) (broadcastInDim S21 ![] bcast_S_S21 (subf (Host.reduce FloatOps.maximumf (res_main_v16 V0) (constant S_ .f32 0xFF800000#32) reducesTo_S65536_S_d0 h_S_) (res_main_v17 V0)))))))

set_option maxRecDepth 8192 in
/-- `main_v32`'s composed term of the arguments (named: it is used 4 times). -/
def res_main_v32 (V0 : Valuation τ sig (Elt F)) : (Proc.devRef .tc main_v32 : DevRef τ sig).ty.Contents (Elt F) :=
  broadcastInDim S1x65536 ![1] bcast_S65536_S1x65536_1 (cmpi .eq (V0 (Proc.devRef .tc main_arg1)) (fun j => (Host.argReduce reducer_argmax_f32_i32 (res_main_v10 V0) (res_main_call0_v0 V0) (res_main_call0_cst V0) (res_main_call0_c V0) reducesTo_S65536x1000_S65536_d1 h_S_ j).2))

set_option maxRecDepth 8192 in
/-- `main_v39`'s composed term of the arguments (named: it is used 2 times). -/
def res_main_v39 (V0 : Valuation τ sig (Elt F)) : (Proc.devRef .tc main_v39 : DevRef τ sig).ty.Contents (Elt F) :=
  Host.reduceAdd (select (andi (broadcastInDim S21x65536 ![0, 1] bcast_S1x65536_S21x65536_0_1 (res_main_v32 V0)) (res_main_v31 V0)) (broadcastInDim S21x65536 ![1] bcast_S65536_S21x65536_1 (mulf (res_main_v11 V0) (subf (broadcastInDim S65536 ![] bcast_S_S65536 (constant S_ .f32 0x3F800000#32)) (res_main_v26 V0)))) (broadcastInDim S21x65536 ![] bcast_S_S21x65536 (constant S_ .f32 0x00000000#32))) (constant S_ .f32 0x00000000#32) reducesTo_S21x65536_S21_d1 h_S_

set_option maxRecDepth 8192 in
/-- `main_v64`'s composed term of the arguments (named: it is used 2 times). -/
def res_main_v64 (V0 : Valuation τ sig (Elt F)) : (Proc.devRef .tc main_v64 : DevRef τ sig).ty.Contents (Elt F) :=
  Host.reduceAdd (select (andi (broadcastInDim S21x65536 ![0, 1] bcast_S1x65536_S21x65536_0_1 (noti (res_main_v32 V0))) (noti (res_main_v31 V0))) (broadcastInDim S21x65536 ![1] bcast_S65536_S21x65536_1 (mulf (subf (broadcastInDim S65536 ![] bcast_S_S65536 (constant S_ .f32 0x3F800000#32)) (res_main_v11 V0)) (res_main_v26 V0))) (broadcastInDim S21x65536 ![] bcast_S_S21x65536 (constant S_ .f32 0x00000000#32))) (constant S_ .f32 0x00000000#32) reducesTo_S21x65536_S21_d1 h_S_

set_option maxRecDepth 8192 in
/-- `main_v71`'s composed term of the arguments (named: it is used 2 times). -/
def res_main_v71 (V0 : Valuation τ sig (Elt F)) : (Proc.devRef .tc main_v71 : DevRef τ sig).ty.Contents (Elt F) :=
  Host.divf (addf (res_main_v39 V0) (res_main_v64 V0)) (addf (addf (addf (addf (res_main_v39 V0) (Host.reduceAdd (select (andi (broadcastInDim S21x65536 ![0, 1] bcast_S1x65536_S21x65536_0_1 (res_main_v32 V0)) (noti (res_main_v31 V0))) (broadcastInDim S21x65536 ![1] bcast_S65536_S21x65536_1 (mulf (res_main_v11 V0) (res_main_v26 V0))) (broadcastInDim S21x65536 ![] bcast_S_S21x65536 (constant S_ .f32 0x00000000#32))) (constant S_ .f32 0x00000000#32) reducesTo_S21x65536_S21_d1 h_S_)) (Host.reduceAdd (select (andi (broadcastInDim S21x65536 ![0, 1] bcast_S1x65536_S21x65536_0_1 (noti (res_main_v32 V0))) (res_main_v31 V0)) (broadcastInDim S21x65536 ![1] bcast_S65536_S21x65536_1 (mulf (subf (broadcastInDim S65536 ![] bcast_S_S65536 (constant S_ .f32 0x3F800000#32)) (res_main_v11 V0)) (subf (broadcastInDim S65536 ![] bcast_S_S65536 (constant S_ .f32 0x3F800000#32)) (res_main_v26 V0)))) (broadcastInDim S21x65536 ![] bcast_S_S21x65536 (constant S_ .f32 0x00000000#32))) (constant S_ .f32 0x00000000#32) reducesTo_S21x65536_S21_d1 h_S_)) (res_main_v64 V0)) (broadcastInDim S21 ![] bcast_S_S21 (constant S_ .f32 0x2B8CBCCC#32)))

set_option maxRecDepth 8192 in
/-- `main_call6_v5`'s composed term of the arguments (named: it is used 2 times). -/
def res_main_call6_v5 (V0 : Valuation τ sig (Elt F)) : (Proc.devRef .tc main_call6_v5 : DevRef τ sig).ty.Contents (Elt F) :=
  subf (V0 (Proc.devRef .tc main_arg0)) (broadcastInDim S65536x1000 ![0, 1] bcast_S65536x1_S65536x1000_0_1 (broadcastInDim S65536x1 ![0] bcast_S65536_S65536x1_0 (maximumf (broadcastInDim S65536 ![] bcast_S_S65536 (constant S_ .f32 0xFF800000#32)) (Host.reduce FloatOps.maximumf (V0 (Proc.devRef .tc main_arg0)) (constant S_ .f32 0xFF800000#32) reducesTo_S65536x1000_S65536_d1 h_S_))))

set_option maxRecDepth 8192 in
/-- `main_v85`'s composed term of the arguments (named: it is used 3 times). -/
def res_main_v85 (V0 : Valuation τ sig (Elt F)) : (Proc.devRef .tc main_v85 : DevRef τ sig).ty.Contents (Elt F) :=
  broadcastInDim S65536x1 ![0] bcast_S65536_S65536x1_0 (V0 (Proc.devRef .tc main_arg1))

set_option maxRecDepth 8192 in
/-- `main_call7_v5`'s composed term of the arguments (named: it is used 3 times). -/
def res_main_call7_v5 (V0 : Valuation τ sig (Elt F)) : (Proc.devRef .tc main_call7_v5 : DevRef τ sig).ty.Contents (Elt F) :=
  shapeCast _ (select (cmpi .slt (res_main_v85 V0) (broadcastInDim S65536x1 ![] bcast_S_S65536x1 (constantI S_ 32 0#32))) (addi (res_main_v85 V0) (broadcastInDim S65536x1 ![] bcast_S_S65536x1 (constantI S_ 32 1000#32))) (res_main_v85 V0)) shapeCasts_S65536x1_S65536x1x1

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_cst_0, main_v1, main_v2, main_v3, main_v4, main_v5, main_v6, main_cst_1, main_v7, main_v8, main_v9, main_v10, main_cst_2, main_v11, main_call0_v0, main_call0_cst, main_call0_c, main_call0_v1_0, main_v12, main_v13, main_v14, main_cst_3, main_v15, main_v16, main_cst_4, main_v17, main_cst_5, main_v18]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.nullary, TRef.quaternary, TRef.toBuf, TRef.ofBuf, cast_eq]
  after_results_simp
  simp only [val0_main_arg0] <;> rfl
set_option maxRecDepth 8192 in
set_option maxHeartbeats 2000000 in
theorem val0_1_main_v12 (V0 : Valuation τ sig (Elt F)) : val0_1 V0 (no_index (Proc.devRef .tc main_v12)) = fun j => (Host.argReduce reducer_argmax_f32_i32 (res_main_v10 V0) (res_main_call0_v0 V0) (res_main_call0_cst V0) (res_main_call0_c V0) reducesTo_S65536x1000_S65536_d1 h_S_ j).2 := by
  unfold val0_1
  simp only [ops_part0_0, TRef.nullary, TRef.quaternary, TRef.toBuf, TRef.ofBuf, cast_eq]
  after_results_simp
  simp only [val0_main_arg0] <;> rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0, TRef.nullary, TRef.quaternary, TRef.toBuf, TRef.ofBuf, cast_eq]
  after_results_simp
  simp only [val0_main_arg0] <;> rfl
set_option maxRecDepth 8192 in
set_option maxHeartbeats 2000000 in
theorem val0_1_main_v17 (V0 : Valuation τ sig (Elt F)) : val0_1 V0 (no_index (Proc.devRef .tc main_v17)) = res_main_v17 V0 := by
  unfold val0_1
  simp only [ops_part0_0, TRef.nullary, TRef.quaternary, TRef.toBuf, TRef.ofBuf, cast_eq]
  after_results_simp
  simp only [val0_main_arg0] <;> rfl
set_option maxRecDepth 8192 in
set_option maxHeartbeats 2000000 in
theorem val0_1_main_v18 (V0 : Valuation τ sig (Elt F)) : val0_1 V0 (no_index (Proc.devRef .tc main_v18)) = Host.reduce FloatOps.maximumf (res_main_v16 V0) (constant S_ .f32 0xFF800000#32) reducesTo_S65536_S_d0 h_S_ := by
  unfold val0_1
  simp only [ops_part0_0, TRef.nullary, TRef.quaternary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_cst_6, main_cst_7, main_call1_v0, main_call1_v1, main_call1_v2, main_call1_cst, main_call1_v3, main_call1_v4, main_call1_cst_0, main_call1_v5, main_call1_v6, main_call1_v7, main_call1_cst_1, main_call1_v8, main_call1_v9, main_call1_v10, main_call1_v11, main_call1_v12, main_call1_v13, main_call1_v14, main_call1_v15, main_call1_v16, main_v19, main_v20, main_v21, main_v22, main_v23, main_v24, main_v25, main_v26]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_v11 (V0 : Valuation τ sig (Elt F)) : val0_2 V0 (no_index (Proc.devRef .tc main_v11)) = res_main_v11 V0 :=
  (val0_2_keep V0 main_v11 (by decide)).trans (val0_1_main_v11 V0)
theorem val0_2_main_v16 (V0 : Valuation τ sig (Elt F)) : val0_2 V0 (no_index (Proc.devRef .tc main_v16)) = res_main_v16 V0 :=
  (val0_2_keep V0 main_v16 (by decide)).trans (val0_1_main_v16 V0)
set_option maxRecDepth 8192 in
set_option maxHeartbeats 2000000 in
theorem val0_2_main_v19 (V0 : Valuation τ sig (Elt F)) : val0_2 V0 (no_index (Proc.devRef .tc main_v19)) = res_main_v19 V0 := by
  unfold val0_2
  simp only [ops_part0_1, TRef.binary, TRef.nullary, TRef.reshape, TRef.unary, TRef.toBuf, TRef.ofBuf, cast_eq]
  after_results_simp
  all_goals rfl
set_option maxRecDepth 8192 in
set_option maxHeartbeats 2000000 in
theorem val0_2_main_v24 (V0 : Valuation τ sig (Elt F)) : val0_2 V0 (no_index (Proc.devRef .tc main_v24)) = addf (broadcastInDim S21 ![] bcast_S_S21 (res_main_v17 V0)) (mulf (res_main_v19 V0) (broadcastInDim S21 ![] bcast_S_S21 (subf (Host.reduce FloatOps.maximumf (res_main_v16 V0) (constant S_ .f32 0xFF800000#32) reducesTo_S65536_S_d0 h_S_) (res_main_v17 V0)))) := by
  unfold val0_2
  simp only [ops_part0_1, TRef.binary, TRef.nullary, TRef.reshape, TRef.unary, TRef.toBuf, TRef.ofBuf, cast_eq]
  after_results_simp
  simp only [val0_1_main_v17, val0_1_main_v18] <;> rfl
set_option maxRecDepth 8192 in
set_option maxHeartbeats 2000000 in
theorem val0_2_main_v25 (V0 : Valuation τ sig (Elt F)) : val0_2 V0 (no_index (Proc.devRef .tc main_v25)) = cmpi .eq (V0 (Proc.devRef .tc main_arg1)) (fun j => (Host.argReduce reducer_argmax_f32_i32 (res_main_v10 V0) (res_main_call0_v0 V0) (res_main_call0_cst V0) (res_main_call0_c V0) reducesTo_S65536x1000_S65536_d1 h_S_ j).2) := by
  unfold val0_2
  simp only [ops_part0_1, TRef.binary, TRef.nullary, TRef.reshape, TRef.unary, TRef.toBuf, TRef.ofBuf, cast_eq]
  after_results_simp
  simp only [val0_1_main_v12, val0_1_main_arg1] <;> rfl
set_option maxRecDepth 8192 in
set_option maxHeartbeats 2000000 in
theorem val0_2_main_v26 (V0 : Valuation τ sig (Elt F)) : val0_2 V0 (no_index (Proc.devRef .tc main_v26)) = res_main_v26 V0 := by
  unfold val0_2
  simp only [ops_part0_1, TRef.binary, TRef.nullary, TRef.reshape, TRef.unary, TRef.toBuf, TRef.ofBuf, cast_eq]
  after_results_simp
  simp only [val0_1_main_v16] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v27, main_v28, main_v29, main_v30, main_v31, main_v32, main_v33, main_v34, main_cst_8, main_v35, main_v36, main_v37, main_cst_9, main_call2_v0, main_call2_v1, main_v38, main_cst_10, main_v39, main_v40, main_v41, main_v42, main_v43, main_cst_11, main_call3_v0, main_call3_v1, main_v44, main_cst_12, main_v45]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_v11 (V0 : Valuation τ sig (Elt F)) : val1 V0 (no_index (Proc.devRef .tc main_v11)) = res_main_v11 V0 :=
  (val1_keep V0 main_v11 (by decide)).trans (val0_2_main_v11 V0)
theorem val1_main_v19 (V0 : Valuation τ sig (Elt F)) : val1 V0 (no_index (Proc.devRef .tc main_v19)) = res_main_v19 V0 :=
  (val1_keep V0 main_v19 (by decide)).trans (val0_2_main_v19 V0)
theorem val1_main_v26 (V0 : Valuation τ sig (Elt F)) : val1 V0 (no_index (Proc.devRef .tc main_v26)) = res_main_v26 V0 :=
  (val1_keep V0 main_v26 (by decide)).trans (val0_2_main_v26 V0)
set_option maxRecDepth 8192 in
set_option maxHeartbeats 2000000 in
theorem val1_main_v31 (V0 : Valuation τ sig (Elt F)) : val1 V0 (no_index (Proc.devRef .tc main_v31)) = res_main_v31 V0 := by
  unfold val1
  simp only [ops_part0_2, TRef.ternary, TRef.unary, TRef.toBuf, TRef.ofBuf, cast_eq]
  after_results_simp
  simp only [val0_2_main_v24, val0_2_main_v16] <;> rfl
set_option maxRecDepth 8192 in
set_option maxHeartbeats 2000000 in
theorem val1_main_v32 (V0 : Valuation τ sig (Elt F)) : val1 V0 (no_index (Proc.devRef .tc main_v32)) = res_main_v32 V0 := by
  unfold val1
  simp only [ops_part0_2, TRef.ternary, TRef.unary, TRef.toBuf, TRef.ofBuf, cast_eq]
  after_results_simp
  simp only [val0_2_main_v25] <;> rfl
set_option maxRecDepth 8192 in
set_option maxHeartbeats 2000000 in
theorem val1_main_v39 (V0 : Valuation τ sig (Elt F)) : val1 V0 (no_index (Proc.devRef .tc main_v39)) = res_main_v39 V0 := by
  unfold val1
  simp only [ops_part0_2, TRef.ternary, TRef.unary, TRef.toBuf, TRef.ofBuf, cast_eq]
  after_results_simp
  simp only [val0_2_main_v26, val0_2_main_v11, val0_2_main_v24, val0_2_main_v16, val0_2_main_v25] <;> rfl
set_option maxRecDepth 8192 in
set_option maxHeartbeats 2000000 in
theorem val1_main_v45 (V0 : Valuation τ sig (Elt F)) : val1 V0 (no_index (Proc.devRef .tc main_v45)) = Host.reduceAdd (select (andi (broadcastInDim S21x65536 ![0, 1] bcast_S1x65536_S21x65536_0_1 (res_main_v32 V0)) (noti (res_main_v31 V0))) (broadcastInDim S21x65536 ![1] bcast_S65536_S21x65536_1 (mulf (res_main_v11 V0) (res_main_v26 V0))) (broadcastInDim S21x65536 ![] bcast_S_S21x65536 (constant S_ .f32 0x00000000#32))) (constant S_ .f32 0x00000000#32) reducesTo_S21x65536_S21_d1 h_S_ := by
  unfold val1
  simp only [ops_part0_2, TRef.ternary, TRef.unary, TRef.toBuf, TRef.ofBuf, cast_eq]
  after_results_simp
  simp only [val0_2_main_v26, val0_2_main_v11, val0_2_main_v24, val0_2_main_v16, val0_2_main_v25] <;> rfl

/-- The device's buffer contents after @main's first 118 operations. -/
def val1_1 (V0 : Valuation τ sig (Elt F)) : Valuation τ sig (Elt F) := after ops_part1_0 (val1 V0)
/-- The buffers that window `ops_part1_0`'s operations write. -/
abbrev ops_part1_0_W : List (Ref sig .tc) := [main_v46, main_v47, main_v48, main_cst_13, main_v49, main_v50, main_cst_14, main_v51, main_v52, main_v53, main_cst_15, main_call4_v0, main_call4_v1, main_v54, main_cst_16, main_v55, main_v56, main_v57, main_v58, main_v59, main_cst_17, main_v60, main_v61, main_v62, main_cst_18, main_call5_v0, main_call5_v1, main_v63, main_cst_19, main_v64]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_v19 (V0 : Valuation τ sig (Elt F)) : val1_1 V0 (no_index (Proc.devRef .tc main_v19)) = res_main_v19 V0 :=
  (val1_1_keep V0 main_v19 (by decide)).trans (val1_main_v19 V0)
theorem val1_1_main_v39 (V0 : Valuation τ sig (Elt F)) : val1_1 V0 (no_index (Proc.devRef .tc main_v39)) = res_main_v39 V0 :=
  (val1_1_keep V0 main_v39 (by decide)).trans (val1_main_v39 V0)
theorem val1_1_main_v45 (V0 : Valuation τ sig (Elt F)) : val1_1 V0 (no_index (Proc.devRef .tc main_v45)) = Host.reduceAdd (select (andi (broadcastInDim S21x65536 ![0, 1] bcast_S1x65536_S21x65536_0_1 (res_main_v32 V0)) (noti (res_main_v31 V0))) (broadcastInDim S21x65536 ![1] bcast_S65536_S21x65536_1 (mulf (res_main_v11 V0) (res_main_v26 V0))) (broadcastInDim S21x65536 ![] bcast_S_S21x65536 (constant S_ .f32 0x00000000#32))) (constant S_ .f32 0x00000000#32) reducesTo_S21x65536_S21_d1 h_S_ :=
  (val1_1_keep V0 main_v45 (by decide)).trans (val1_main_v45 V0)
set_option maxRecDepth 8192 in
set_option maxHeartbeats 2000000 in
theorem val1_1_main_v55 (V0 : Valuation τ sig (Elt F)) : val1_1 V0 (no_index (Proc.devRef .tc main_v55)) = Host.reduceAdd (select (andi (broadcastInDim S21x65536 ![0, 1] bcast_S1x65536_S21x65536_0_1 (noti (res_main_v32 V0))) (res_main_v31 V0)) (broadcastInDim S21x65536 ![1] bcast_S65536_S21x65536_1 (mulf (subf (broadcastInDim S65536 ![] bcast_S_S65536 (constant S_ .f32 0x3F800000#32)) (res_main_v11 V0)) (subf (broadcastInDim S65536 ![] bcast_S_S65536 (constant S_ .f32 0x3F800000#32)) (res_main_v26 V0)))) (broadcastInDim S21x65536 ![] bcast_S_S21x65536 (constant S_ .f32 0x00000000#32))) (constant S_ .f32 0x00000000#32) reducesTo_S21x65536_S21_d1 h_S_ := by
  unfold val1_1
  simp only [ops_part1_0, TRef.ternary, TRef.unary, TRef.toBuf, TRef.ofBuf, cast_eq]
  after_results_simp
  simp only [val1_main_v26, val1_main_v11, val1_main_v31, val1_main_v32] <;> rfl
set_option maxRecDepth 8192 in
set_option maxHeartbeats 2000000 in
theorem val1_1_main_v64 (V0 : Valuation τ sig (Elt F)) : val1_1 V0 (no_index (Proc.devRef .tc main_v64)) = res_main_v64 V0 := by
  unfold val1_1
  simp only [ops_part1_0, TRef.ternary, TRef.unary, TRef.toBuf, TRef.ofBuf, cast_eq]
  after_results_simp
  simp only [val1_main_v26, val1_main_v11, val1_main_v31, val1_main_v32] <;> rfl

/-- The device's buffer contents after @main's first 148 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v65, main_v66, main_v67, main_v68, main_cst_20, main_v69, main_v70, main_v71, main_v72, main_v73, main_v74, main_v75, main_v76, main_v77, main_v78, main_cst_21, main_v79, main_cst_22, main_v80, main_cst_23, main_v81, main_v82, main_cst_24, main_v83, main_call6_cst, main_call6_v0, main_call6_cst_0, main_call6_v1, main_call6_v2, main_call6_v3]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
set_option maxRecDepth 8192 in
set_option maxHeartbeats 2000000 in
theorem val1_2_main_v83 (V0 : Valuation τ sig (Elt F)) : val1_2 V0 (no_index (Proc.devRef .tc main_v83)) = mulf (constant S_ .f32 0xC0400000#32) (Host.log (addf (mulf (constant S_ .f32 0x3F000000#32) (Host.reduceAdd (mulf (addf (extractStridedSlice S20 ![1] (res_main_v71 V0) slices_S21_S20_1) (extractStridedSlice S20 ![0] (res_main_v71 V0) slices_S21_S20_0)) (subf (extractStridedSlice S20 ![1] (res_main_v19 V0) slices_S21_S20_1) (extractStridedSlice S20 ![0] (res_main_v19 V0) slices_S21_S20_0))) (constant S_ .f32 0x00000000#32) reducesTo_S20_S_d0 h_S_)) (constant S_ .f32 0x2B8CBCCC#32))) := by
  unfold val1_2
  simp only [ops_part1_1, TRef.binary, TRef.nullary, TRef.unary, TRef.toBuf, TRef.ofBuf, cast_eq]
  after_results_simp
  simp only [val1_1_main_v19, val1_1_main_v64, val1_1_main_v55, val1_1_main_v45, val1_1_main_v39] <;> rfl
set_option maxRecDepth 8192 in
set_option maxHeartbeats 2000000 in
theorem val1_2_main_call6_v3 (V0 : Valuation τ sig (Elt F)) : val1_2 V0 (no_index (Proc.devRef .tc main_call6_v3)) = broadcastInDim S65536x1 ![0] bcast_S65536_S65536x1_0 (maximumf (broadcastInDim S65536 ![] bcast_S_S65536 (constant S_ .f32 0xFF800000#32)) (Host.reduce FloatOps.maximumf (V0 (Proc.devRef .tc main_arg0)) (constant S_ .f32 0xFF800000#32) reducesTo_S65536x1000_S65536_d1 h_S_)) := by
  unfold val1_2
  simp only [ops_part1_1, TRef.binary, TRef.nullary, TRef.unary, TRef.toBuf, TRef.ofBuf, cast_eq]
  after_results_simp
  simp only [val1_1_main_arg0] <;> rfl

/-- The device's buffer contents after @main's first 178 operations. -/
def val1_3 (V0 : Valuation τ sig (Elt F)) : Valuation τ sig (Elt F) := after ops_part1_2 (val1_2 V0)
/-- The buffers that window `ops_part1_2`'s operations write. -/
abbrev ops_part1_2_W : List (Ref sig .tc) := [main_call6_v4, main_call6_v5, main_call6_v6, main_call6_cst_1, main_call6_v7, main_call6_v8, main_call6_v9, main_call6_v10, main_v84, main_v85, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
theorem val1_3_main_arg2 (V0 : Valuation τ sig (Elt F)) : val1_3 V0 (no_index (Proc.devRef .tc main_arg2)) = V0 (Proc.devRef .tc main_arg2) :=
  (val1_3_keep V0 main_arg2 (by decide)).trans (val1_2_main_arg2 V0)
theorem val1_3_main_arg3 (V0 : Valuation τ sig (Elt F)) : val1_3 V0 (no_index (Proc.devRef .tc main_arg3)) = V0 (Proc.devRef .tc main_arg3) :=
  (val1_3_keep V0 main_arg3 (by decide)).trans (val1_2_main_arg3 V0)
theorem val1_3_main_v83 (V0 : Valuation τ sig (Elt F)) : val1_3 V0 (no_index (Proc.devRef .tc main_v83)) = mulf (constant S_ .f32 0xC0400000#32) (Host.log (addf (mulf (constant S_ .f32 0x3F000000#32) (Host.reduceAdd (mulf (addf (extractStridedSlice S20 ![1] (res_main_v71 V0) slices_S21_S20_1) (extractStridedSlice S20 ![0] (res_main_v71 V0) slices_S21_S20_0)) (subf (extractStridedSlice S20 ![1] (res_main_v19 V0) slices_S21_S20_1) (extractStridedSlice S20 ![0] (res_main_v19 V0) slices_S21_S20_0))) (constant S_ .f32 0x00000000#32) reducesTo_S20_S_d0 h_S_)) (constant S_ .f32 0x2B8CBCCC#32))) :=
  (val1_3_keep V0 main_v83 (by decide)).trans (val1_2_main_v83 V0)
set_option maxRecDepth 8192 in
set_option maxHeartbeats 2000000 in
theorem val1_3_main_call7_v12 (V0 : Valuation τ sig (Elt F)) : val1_3 V0 (no_index (Proc.devRef .tc main_call7_v12)) = Host.reduce IntOp.andi (andi (cmpi .sge (res_main_call7_v5 V0) (broadcastInDim S65536x1x1 ![] bcast_S_S65536x1x1 (constantI S_ 32 0#32))) (cmpi .sle (res_main_call7_v5 V0) (broadcastInDim S65536x1x1 ![0, 1, 2] bcast_S1x1x1_S65536x1x1_0_1_2 (broadcastInDim S1x1x1 ![2] bcast_S1_S1x1x1_2 (constantI S1 32 999#32))))) (constantI S_ 1 1#1) reducesTo_S65536x1x1_S65536x1_d2 h_S_ := by
  unfold val1_3
  simp only [ops_part1_2, TRef.binary, TRef.nullary, TRef.reshape, TRef.ternary, TRef.unary, TRef.toBuf, TRef.ofBuf, cast_eq]
  after_results_simp
  simp only [val1_2_main_arg1] <;> rfl
set_option maxRecDepth 8192 in
set_option maxHeartbeats 2000000 in
theorem val1_3_main_call7_v13 (V0 : Valuation τ sig (Elt F)) : val1_3 V0 (no_index (Proc.devRef .tc main_call7_v13)) = Host.gather gather_S65536x1000_S65536x1x1_S65536x1_n_1_0_0_1_2_11 (subf (res_main_call6_v5 V0) (broadcastInDim S65536x1000 ![0, 1] bcast_S65536x1_S65536x1000_0_1 (Host.log (broadcastInDim S65536x1 ![0] bcast_S65536_S65536x1_0 (Host.reduceAdd (Host.exp (res_main_call6_v5 V0)) (constant S_ .f32 0x00000000#32) reducesTo_S65536x1000_S65536_d1 h_S_))))) (res_main_call7_v5 V0) := by
  unfold val1_3
  simp only [ops_part1_2, TRef.binary, TRef.nullary, TRef.reshape, TRef.ternary, TRef.unary, TRef.toBuf, TRef.ofBuf, cast_eq]
  after_results_simp
  simp only [val1_2_main_arg1, val1_2_main_call6_v3, val1_2_main_arg0] <;> rfl
set_option maxRecDepth 8192 in
set_option maxHeartbeats 2000000 in
theorem val1_3_main_call7_cst (V0 : Valuation τ sig (Elt F)) : val1_3 V0 (no_index (Proc.devRef .tc main_call7_cst)) = constant S_ .f32 0x7FC00000#32 := by
  unfold val1_3
  simp only [ops_part1_2, TRef.binary, TRef.nullary, TRef.reshape, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_3 (val1_3 V0)
/-- The buffers that window `ops_part1_3`'s operations write. -/
abbrev ops_part1_3_W : List (Ref sig .tc) := [main_call7_v14, main_v86, main_cst_25, main_v87, main_cst_26, main_v88, main_v89, main_v90, main_v91]
set_option maxRecDepth 8192 in
theorem ops_part1_3_writes : (ops_part1_3 : List (HloOp τ sig (Elt F))).Forall fun op => op.writes ⊆ (ops_part1_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_3` does not write keeps its contents through it. -/
theorem val2_keep (V0 : Valuation τ sig (Elt F)) (r : Ref sig .tc) (h : r ∉ ops_part1_3_W) :
    val2 V0 (Proc.devRef .tc r) = val1_3 V0 (Proc.devRef .tc r) :=
  after_of_writes_sub ops_part1_3 _ ops_part1_3_writes h
theorem val2_main_arg0 (V0 : Valuation τ sig (Elt F)) : val2 V0 (no_index (Proc.devRef .tc main_arg0)) = V0 (Proc.devRef .tc main_arg0) :=
  (val2_keep V0 main_arg0 (by decide)).trans (val1_3_main_arg0 V0)
theorem val2_main_arg1 (V0 : Valuation τ sig (Elt F)) : val2 V0 (no_index (Proc.devRef .tc main_arg1)) = V0 (Proc.devRef .tc main_arg1) :=
  (val2_keep V0 main_arg1 (by decide)).trans (val1_3_main_arg1 V0)
theorem val2_main_arg2 (V0 : Valuation τ sig (Elt F)) : val2 V0 (no_index (Proc.devRef .tc main_arg2)) = V0 (Proc.devRef .tc main_arg2) :=
  (val2_keep V0 main_arg2 (by decide)).trans (val1_3_main_arg2 V0)
theorem val2_main_arg3 (V0 : Valuation τ sig (Elt F)) : val2 V0 (no_index (Proc.devRef .tc main_arg3)) = V0 (Proc.devRef .tc main_arg3) :=
  (val2_keep V0 main_arg3 (by decide)).trans (val1_3_main_arg3 V0)
set_option maxRecDepth 8192 in
set_option maxHeartbeats 900000 in
theorem val2_main_v91 (V0 : Valuation τ sig (Elt F)) : val2 V0 (no_index (Proc.devRef .tc main_v91)) = broadcastInDim S1 ![] bcast_S_S1 (addf (mulf (constant S_ .f32 0xC0400000#32) (Host.log (addf (mulf (constant S_ .f32 0x3F000000#32) (Host.reduceAdd (mulf (addf (extractStridedSlice S20 ![1] (res_main_v71 V0) slices_S21_S20_1) (extractStridedSlice S20 ![0] (res_main_v71 V0) slices_S21_S20_0)) (subf (extractStridedSlice S20 ![1] (res_main_v19 V0) slices_S21_S20_1) (extractStridedSlice S20 ![0] (res_main_v19 V0) slices_S21_S20_0))) (constant S_ .f32 0x00000000#32) reducesTo_S20_S_d0 h_S_)) (constant S_ .f32 0x2B8CBCCC#32)))) (Host.negf (Host.divf (Host.reduceAdd (select (Host.reduce IntOp.andi (andi (cmpi .sge (res_main_call7_v5 V0) (broadcastInDim S65536x1x1 ![] bcast_S_S65536x1x1 (constantI S_ 32 0#32))) (cmpi .sle (res_main_call7_v5 V0) (broadcastInDim S65536x1x1 ![0, 1, 2] bcast_S1x1x1_S65536x1x1_0_1_2 (broadcastInDim S1x1x1 ![2] bcast_S1_S1x1x1_2 (constantI S1 32 999#32))))) (constantI S_ 1 1#1) reducesTo_S65536x1x1_S65536x1_d2 h_S_) (Host.gather gather_S65536x1000_S65536x1x1_S65536x1_n_1_0_0_1_2_11 (subf (res_main_call6_v5 V0) (broadcastInDim S65536x1000 ![0, 1] bcast_S65536x1_S65536x1000_0_1 (Host.log (broadcastInDim S65536x1 ![0] bcast_S65536_S65536x1_0 (Host.reduceAdd (Host.exp (res_main_call6_v5 V0)) (constant S_ .f32 0x00000000#32) reducesTo_S65536x1000_S65536_d1 h_S_))))) (res_main_call7_v5 V0)) (broadcastInDim S65536x1 ![] bcast_S_S65536x1 (constant S_ .f32 0x7FC00000#32))) (constant S_ .f32 0x00000000#32) reducesTo_S65536x1_S_d0_1 h_S_) (constant S_ .f32 0x47800000#32)))) := by
  unfold val2
  simp only [ops_part1_3, TRef.ternary, TRef.unary, TRef.toBuf, TRef.ofBuf, cast_eq]
  after_results_simp
  simp only [val1_3_main_call7_cst, val1_3_main_call7_v13, val1_3_main_call7_v12, val1_3_main_v83] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := []
set_option maxRecDepth 8192 in
theorem ops_part2_writes : (ops_part2 : List (HloOp τ sig (Elt F))).Forall fun op => op.writes ⊆ (ops_part2_W.map (Proc.devRef (τ := τ) .tc)).toFinset := by
  simp only [List.Forall]
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_v91 (V0 : Valuation τ sig (Elt F)) : val3 V0 (no_index (Proc.devRef .tc main_v91)) = broadcastInDim S1 ![] bcast_S_S1 (addf (mulf (constant S_ .f32 0xC0400000#32) (Host.log (addf (mulf (constant S_ .f32 0x3F000000#32) (Host.reduceAdd (mulf (addf (extractStridedSlice S20 ![1] (res_main_v71 V0) slices_S21_S20_1) (extractStridedSlice S20 ![0] (res_main_v71 V0) slices_S21_S20_0)) (subf (extractStridedSlice S20 ![1] (res_main_v19 V0) slices_S21_S20_1) (extractStridedSlice S20 ![0] (res_main_v19 V0) slices_S21_S20_0))) (constant S_ .f32 0x00000000#32) reducesTo_S20_S_d0 h_S_)) (constant S_ .f32 0x2B8CBCCC#32)))) (Host.negf (Host.divf (Host.reduceAdd (select (Host.reduce IntOp.andi (andi (cmpi .sge (res_main_call7_v5 V0) (broadcastInDim S65536x1x1 ![] bcast_S_S65536x1x1 (constantI S_ 32 0#32))) (cmpi .sle (res_main_call7_v5 V0) (broadcastInDim S65536x1x1 ![0, 1, 2] bcast_S1x1x1_S65536x1x1_0_1_2 (broadcastInDim S1x1x1 ![2] bcast_S1_S1x1x1_2 (constantI S1 32 999#32))))) (constantI S_ 1 1#1) reducesTo_S65536x1x1_S65536x1_d2 h_S_) (Host.gather gather_S65536x1000_S65536x1x1_S65536x1_n_1_0_0_1_2_11 (subf (res_main_call6_v5 V0) (broadcastInDim S65536x1000 ![0, 1] bcast_S65536x1_S65536x1000_0_1 (Host.log (broadcastInDim S65536x1 ![0] bcast_S65536_S65536x1_0 (Host.reduceAdd (Host.exp (res_main_call6_v5 V0)) (constant S_ .f32 0x00000000#32) reducesTo_S65536x1000_S65536_d1 h_S_))))) (res_main_call7_v5 V0)) (broadcastInDim S65536x1 ![] bcast_S_S65536x1 (constant S_ .f32 0x7FC00000#32))) (constant S_ .f32 0x00000000#32) reducesTo_S65536x1_S_d0_1 h_S_) (constant S_ .f32 0x47800000#32)))) :=
  (val3_keep V0 main_v91 (by decide)).trans (val2_main_v91 V0)

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = broadcastInDim S1 ![] bcast_S_S1 (addf (mulf (constant S_ .f32 0xC0400000#32) (Host.log (addf (mulf (constant S_ .f32 0x3F000000#32) (Host.reduceAdd (mulf (addf (extractStridedSlice S20 ![1] (res_main_v71 (launchContents m c)) slices_S21_S20_1) (extractStridedSlice S20 ![0] (res_main_v71 (launchContents m c)) slices_S21_S20_0)) (subf (extractStridedSlice S20 ![1] (res_main_v19 (launchContents m c)) slices_S21_S20_1) (extractStridedSlice S20 ![0] (res_main_v19 (launchContents m c)) slices_S21_S20_0))) (constant S_ .f32 0x00000000#32) reducesTo_S20_S_d0 h_S_)) (constant S_ .f32 0x2B8CBCCC#32)))) (Host.negf (Host.divf (Host.reduceAdd (select (Host.reduce IntOp.andi (andi (cmpi .sge (res_main_call7_v5 (launchContents m c)) (broadcastInDim S65536x1x1 ![] bcast_S_S65536x1x1 (constantI S_ 32 0#32))) (cmpi .sle (res_main_call7_v5 (launchContents m c)) (broadcastInDim S65536x1x1 ![0, 1, 2] bcast_S1x1x1_S65536x1x1_0_1_2 (broadcastInDim S1x1x1 ![2] bcast_S1_S1x1x1_2 (constantI S1 32 999#32))))) (constantI S_ 1 1#1) reducesTo_S65536x1x1_S65536x1_d2 h_S_) (Host.gather gather_S65536x1000_S65536x1x1_S65536x1_n_1_0_0_1_2_11 (subf (res_main_call6_v5 (launchContents m c)) (broadcastInDim S65536x1000 ![0, 1] bcast_S65536x1_S65536x1000_0_1 (Host.log (broadcastInDim S65536x1 ![0] bcast_S65536_S65536x1_0 (Host.reduceAdd (Host.exp (res_main_call6_v5 (launchContents m c))) (constant S_ .f32 0x00000000#32) reducesTo_S65536x1000_S65536_d1 h_S_))))) (res_main_call7_v5 (launchContents m c))) (broadcastInDim S65536x1 ![] bcast_S_S65536x1 (constant S_ .f32 0x7FC00000#32))) (constant S_ .f32 0x00000000#32) reducesTo_S65536x1_S_d0_1 h_S_) (constant S_ .f32 0x47800000#32))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v91).trans ((congrFun (after_ops (launchContents m c)) (Proc.devRef .tc main_v91)).trans (val3_main_v91 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c)))⟩)
    (run_seq scopedRefs_eq scopedSems_eq defs main (fun _ => ops) main_eq (fun _ => ops_sub) m ρ fun _ => ops_fresh)

end Cert.ReferenceIdeal.Value

end
-- ==== Proof.Frames.lean ====
/- The frames of the three programs and the ledger: the kernel as compiled, the kernel over extended reals and the
   reference each run to the end, fault-free, leave their arguments unchanged and every semaphore counter at zero; and
   the constant the idealized kernel names is the rational 1/20 whose nearest float the kernel prints. -/
module

public import proofs.«01_k».proof.Defs
public import proofs.«01_k».proof.Proof.KernelRun
public import proofs.«01_k».proof.Proof.KernelIdealRun
public import proofs.«01_k».proof.Proof.RefRun
public import proofs.«01_k».proof.Proof.Gen.Kernel
public import proofs.«01_k».proof.Proof.Gen.KernelIdeal
public import proofs.«01_k».proof.Proof.Gen.ReferenceIdeal
public import Idealize.ShloMosaic.Lib.Quiescent

@[expose] public section

noncomputable section

namespace Cert.Frames

open Idealize.ShloMosaic Idealize.ShloMosaic.TcCoe Idealize.SL.Sem

/-- The kernel's frame, at words. -/
theorem frame_kernel : Cert.quiescent_Kernel := fun m ρ _ =>
  (θ_run Cert.Kernel.defs _ _).mono (fun _ h => ⟨fun c => (h.1 c).2, h.2⟩) (Cert.Kernel.Run.run m ρ)

/-- The idealized kernel's frame, from any memory. -/
theorem frame_ideal : Cert.quiescent_KernelIdeal := fun m ρ _ =>
  (θ_run Cert.KernelIdeal.defs _ _).mono (fun _ h => ⟨fun c => (h.1 c).2, h.2⟩) (Cert.KernelIdeal.Run.run m ρ)

/-- The reference's frame, from any memory: it declares no semaphore, so every counter is zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The step 1/20 of the thresholds is the value the printed literal is named for. -/
theorem step_named : Cert.preserves_Kernel_KernelIdeal :=
  IdealRules.named_const.statement Cert.KernelIdeal.κ "step" .f32 0x3D4CCCCD#32 ((1 / 20 : ℝ) : EReal) rfl

end Cert.Frames

end
-- ==== Proof.KernelRow.lean ====
/- What one block of the row-statistics kernel computes: for each of its 2048 rows, four numbers of that row's
   logits and label. -/
module

public import proofs.«01_k».proof.Proof.KernelIdealRun
public import Idealize.ShloMosaic.Lib.Pointwise
public import Idealize.ShloMosaic.Lib.Pipeline.ValueKit

@[expose] public section

set_option maxRecDepth 16384

noncomputable section

namespace Cert.KernelRow

open Idealize.ShloMosaic Cert.KernelIdeal Cert.KernelIdeal.Gen Cert.KernelIdeal.Run

/-- The greatest of a row. -/
def rowMax (x : Fin 1000 → EReal) : EReal := Finset.univ.fold max (Ideal.ofBits .f32 0xFF800000#32) x

/-- The sum of a row's exponentials. -/
def rowSum (x : Fin 1000 → EReal) : EReal := ∑ c, Ideal.exp (x c)

/-- The sum of a row's exponentials, each times its logit. -/
def rowDot (x : Fin 1000 → EReal) : EReal := ∑ c, Ideal.exp (x c) * x c

/-- The label's logit, kept by a sum over the classes. -/
def rowLab (x : Fin 1000 → EReal) (l : BitVec 32) : EReal :=
  ∑ c : Fin 1000, Scalar.select (IntOp.cmpi .eq (BitVec.ofNat 32 (c : ℕ)) l) (x c) 0

/-- The four statistics of a row: the greatest probability, the entropy, 1 where the label's logit is the greatest
    and 0 elsewhere, the label's negative log-likelihood. -/
def rowStat (a : Fin 4) (x : Fin 1000 → EReal) (l : BitVec 32) : EReal :=
  match a with
  | 0 => Ideal.exp (rowMax x) * Ideal.div 1 (rowSum x)
  | 1 => Ideal.log (rowSum x) - rowDot x * Ideal.div 1 (rowSum x)
  | 2 => if rowLab x l = rowMax x then 1 else 0
  | 3 => Ideal.log (rowSum x) - rowLab x l

set_option maxHeartbeats 1000000 in
theorem pay3_apply (l : Vec Ideal S1x1x2048 .i32) (x : Vec Ideal S1024x1000 .f32) (r : Fin 1024) (a : Fin 4) :
    k0_pay3 l x (ix2 r a) = rowStat a (fun c => x (ix2 r c)) (l (ix3 0 0 ⟨r, by omega⟩)) := by
  pointwise [k0_pay3, k0_pay2]
  fin_vals a with ha
  all_goals simp only [ha, Nat.reduceSub, Nat.reduceLT, ↓reduceDIte]
  · obtain rfl : a = 0 := Fin.ext ha
    rfl
  · obtain rfl : a = 1 := Fin.ext ha
    rfl
  · obtain rfl : a = 2 := Fin.ext ha
    rfl
  · obtain rfl : a = 3 := Fin.ext ha
    rfl

end Cert.KernelRow
-- ==== Proof.KernelBlock.lean ====
/- What one block of the row-statistics kernel leaves in its output block: the four statistics of its 2048 rows, the
   first half's and the second half's computed apart. -/
module

public import proofs.«01_k».proof.Proof.KernelRow

@[expose] public section

set_option maxRecDepth 16384

noncomputable section

namespace Cert.KernelRow

open Idealize.ShloMosaic Cert.KernelIdeal Cert.KernelIdeal.Gen Cert.KernelIdeal.Run

set_option maxHeartbeats 1000000 in
/-- The stored block at a row: the first half's statistics as handed over, the second half's from its values. -/
theorem pay1_apply (v3 : IVec S1024x1000 32) (v32 : FVec Ideal S1024x4 .f32) (v33 : Vec Ideal S1024x1000 .f32)
    (v34 : IVec S1024x1 32) (v36 v39 : FVec Ideal S1024x1 .f32) (v40 : FVec Ideal S1024x1000 .f32) (a : Fin 4) (r : Fin 2048) :
    k0_pay1 v3 v32 v33 v34 v36 v39 v40 (ix2 a r)
      = if h : (r : ℕ) < 1024 then v32 (ix2 ⟨r, h⟩ a)
        else match a with
          | 0 => Ideal.exp (v36 (ix2 ⟨r - 1024, by omega⟩ 0)) * Ideal.div 1 (v39 (ix2 ⟨r - 1024, by omega⟩ 0))
          | 1 => Ideal.log (v39 (ix2 ⟨r - 1024, by omega⟩ 0))
              - (∑ c, v40 (ix2 ⟨r - 1024, by omega⟩ c)) * Ideal.div 1 (v39 (ix2 ⟨r - 1024, by omega⟩ 0))
          | 2 => if ∑ c, Scalar.select (IntOp.cmpi .eq (v3 (ix2 ⟨r - 1024, by omega⟩ c)) (v34 (ix2 ⟨r - 1024, by omega⟩ 0)))
                (v33 (ix2 ⟨r - 1024, by omega⟩ c)) 0 = v36 (ix2 ⟨r - 1024, by omega⟩ 0) then 1 else 0
          | 3 => Ideal.log (v39 (ix2 ⟨r - 1024, by omega⟩ 0))
              - ∑ c, Scalar.select (IntOp.cmpi .eq (v3 (ix2 ⟨r - 1024, by omega⟩ c)) (v34 (ix2 ⟨r - 1024, by omega⟩ 0)))
                (v33 (ix2 ⟨r - 1024, by omega⟩ c)) 0 := by
  pointwise [k0_pay1]
  by_cases h : (r : ℕ) < 1024
  · rw [dif_pos h, dif_pos h]
  rw [dif_neg h, dif_neg h]
  fin_vals a with ha
  all_goals simp only [ha, Nat.reduceSub, Nat.reduceLT, ↓reduceDIte]
  · obtain rfl : a = 0 := Fin.ext ha
    rfl
  · obtain rfl : a = 1 := Fin.ext ha
    rfl
  · obtain rfl : a = 2 := Fin.ext ha
    rfl
  · obtain rfl : a = 3 := Fin.ext ha
    rfl

theorem lane_apply (r : Fin 1024) (c : Fin 1000) :
    iota .tc S1024x1000 32 [1] iota_S1024x1000_d1_w32 (ix2 r c) = BitVec.ofNat 32 (c : ℕ) := by
  pointwise

theorem pay4_apply (l : Vec Ideal S1x1x2048 .i32) (r : Fin 1024) :
    k0_pay4 (F := Ideal) l (ix2 r 0) = l (ix3 0 0 ⟨1024 + r, by omega⟩) := by
  pointwise [k0_pay4, k0_pay2]

theorem pay5_apply (x : Vec Ideal S1024x1000 .f32) (r : Fin 1024) : k0_pay5 x (ix2 r 0) = rowMax fun c => x (ix2 r c) := by
  pointwise [k0_pay5]
  rfl

theorem pay7_apply (x : Vec Ideal S1024x1000 .f32) (r : Fin 1024) : k0_pay7 x (ix2 r 0) = rowSum fun c => x (ix2 r c) := by
  pointwise [k0_pay7, k0_pay6]
  rfl

theorem pay8_apply (x : Vec Ideal S1024x1000 .f32) (r : Fin 1024) (c : Fin 1000) :
    k0_pay8 x (ix2 r c) = Ideal.exp (x (ix2 r c)) * x (ix2 r c) := by
  pointwise [k0_pay8, k0_pay6]

/-- The output block at a row is that row's statistics. -/
theorem out_apply (x0 : Vec Ideal S2048x1000 .f32) (x1 : Vec Ideal S1x1x2048 .i32) (a : Fin 4) (r : Fin 2048) :
    out0_2 x0 x1 (ix2 a r) = rowStat a (fun c => x0 (ix2 r c)) (x1 (ix3 0 0 r)) := by
  unfold out0_2
  rw [View.canon_unit_zero (by funext k; fin_cases k <;> rfl), View.ld_unit_zero (by funext k; fin_cases k <;> rfl), pay1_apply]
  by_cases h : (r : ℕ) < 1024
  · rw [dif_pos h, pay3_apply]
    pointwise
  · rw [dif_neg h]
    have hr : (⟨1024 + ((r : ℕ) - 1024), by omega⟩ : Fin 2048) = r := Fin.ext (by simp only; omega)
    have hx : ∀ c, View.ld x0 r0_2 (ix2 ⟨(r : ℕ) - 1024, by omega⟩ c) = x0 (ix2 r c) := fun c => by
      pointwise
      rw [hr]
    have hl : k0_pay4 (F := Ideal) x1 (ix2 ⟨(r : ℕ) - 1024, by omega⟩ 0) = x1 (ix3 0 0 r) := by
      rw [pay4_apply]
      exact congrArg (fun k => x1 (ix3 0 0 k)) hr
    have hs : (∑ c : Fin 1000, Scalar.select (IntOp.cmpi .eq
        (iota .tc S1024x1000 32 [1] iota_S1024x1000_d1_w32 (ix2 ⟨(r : ℕ) - 1024, by omega⟩ c)) (x1 (ix3 0 0 r)))
        (x0 (ix2 r c)) 0) = rowLab (fun c => x0 (ix2 r c)) (x1 (ix3 0 0 r)) :=
      Finset.sum_congr rfl fun c _ => by rw [lane_apply]
    fin_vals a with ha
    · obtain rfl : a = 0 := Fin.ext ha
      simp only [pay5_apply, pay7_apply, hx]
      rfl
    · obtain rfl : a = 1 := Fin.ext ha
      simp only [pay7_apply, pay8_apply, hx]
      rfl
    · obtain rfl : a = 2 := Fin.ext ha
      simp only [pay5_apply, hl, hx]
      exact congrArg (fun s => if s = rowMax (fun c => x0 (ix2 r c)) then (1 : EReal) else 0) hs
    · obtain rfl : a = 3 := Fin.ext ha
      simp only [pay7_apply, hl, hx]
      exact congrArg (fun s => Ideal.log (rowSum fun c => x0 (ix2 r c)) - s) hs

end Cert.KernelRow
-- ==== Proof.RowMath.lean ====
/- The mathematics of one row of logits, over the reals: the softmax's greatest probability, its entropy, the
   label's negative log-likelihood, and the forms in which a program may compute them. No program here. -/
module

public import Idealize.ShloMosaic.PureOps.Ideal
public import Idealize.ShloMosaic.Lib.Pointwise
public import Idealize.ShloMosaic.Lib.PlanTiles.Rows

@[expose] public section

noncomputable section

namespace Cert.RowMath

open Idealize.ShloMosaic

/-- A row of logits, one real for each of the 1000 classes. -/
abbrev Row := Fin 1000 → ℝ

/-- The sum of the exponentials of a row. -/
def expSum (x : Row) : ℝ := ∑ c, Real.exp (x c)

/-- The greatest logit of a row. -/
def top (x : Row) : ℝ := Finset.univ.sup' ⟨0, Finset.mem_univ _⟩ x

/-- The softmax's probability of a class. -/
def prob (x : Row) (c : Fin 1000) : ℝ := Real.exp (x c) / expSum x

/-- The greatest of a row's probabilities. -/
def conf (x : Row) : ℝ := Real.exp (top x) / expSum x

/-- The entropy of a row's softmax, as the log of the sum less the mean logit. -/
def unc (x : Row) : ℝ := Real.log (expSum x) - (∑ c, Real.exp (x c) * x c) / expSum x

/-- The negative log-likelihood of a class. -/
def nll (x : Row) (l : Fin 1000) : ℝ := Real.log (expSum x) - x l

/-- The bit that says that the label holds the greatest logit. -/
def hitBit (x : Row) (l : Fin 1000) : BitVec 1 := by
  classical exact BitVec.ofBool (decide (x l = top x))

theorem expSum_pos (x : Row) : 0 < expSum x :=
  Finset.sum_pos (fun c _ => Real.exp_pos _) ⟨0, Finset.mem_univ _⟩

theorem le_top (x : Row) (c : Fin 1000) : x c ≤ top x := Finset.le_sup' x (Finset.mem_univ c)

theorem exists_top (x : Row) : ∃ c, top x = x c := by
  obtain ⟨c, _, h⟩ := Finset.exists_mem_eq_sup' (s := Finset.univ) ⟨(0 : Fin 1000), Finset.mem_univ _⟩ x
  exact ⟨c, h⟩

theorem prob_pos (x : Row) (c : Fin 1000) : 0 < prob x c := div_pos (Real.exp_pos _) (expSum_pos x)

theorem prob_le_conf (x : Row) (c : Fin 1000) : prob x c ≤ conf x :=
  div_le_div_of_nonneg_right (Real.exp_le_exp.mpr (le_top x c)) (expSum_pos x).le

theorem exists_conf (x : Row) : ∃ c, conf x = prob x c := by
  obtain ⟨c, h⟩ := exists_top x
  exact ⟨c, by rw [conf, h, prob]⟩

/-- The probabilities of a row add up to one. -/
theorem sum_prob (x : Row) : ∑ c, prob x c = 1 := by
  simp only [prob]
  rw [← Finset.sum_div]
  exact div_self (expSum_pos x).ne'

theorem prob_le_one (x : Row) (c : Fin 1000) : prob x c ≤ 1 := by
  rw [← sum_prob x]
  exact Finset.single_le_sum (fun i _ => (prob_pos x i).le) (Finset.mem_univ c)

theorem conf_nonneg (x : Row) : 0 ≤ conf x := (div_pos (Real.exp_pos _) (expSum_pos x)).le

theorem conf_le_one (x : Row) : conf x ≤ 1 := by
  obtain ⟨c, h⟩ := exists_conf x
  rw [h]; exact prob_le_one x c

theorem log_prob (x : Row) (c : Fin 1000) : Real.log (prob x c) = x c - Real.log (expSum x) := by
  rw [prob, Real.log_div (Real.exp_pos _).ne' (expSum_pos x).ne', Real.log_exp]

/-- The entropy as it is defined: less the sum of each probability times its logarithm. -/
theorem unc_eq (x : Row) : -∑ c, prob x c * Real.log (prob x c) = unc x := by
  have h : ∀ c, prob x c * Real.log (prob x c)
      = (Real.exp (x c) * x c) / expSum x - prob x c * Real.log (expSum x) := fun c => by
    rw [log_prob, prob]; ring
  simp only [h]
  rw [Finset.sum_sub_distrib, ← Finset.sum_mul, sum_prob, ← Finset.sum_div, unc]
  ring

theorem unc_nonneg (x : Row) : 0 ≤ unc x := by
  rw [← unc_eq, ← Finset.sum_neg_distrib]
  refine Finset.sum_nonneg fun c _ => ?_
  have := mul_nonpos_of_nonneg_of_nonpos (prob_pos x c).le (Real.log_nonpos (prob_pos x c).le (prob_le_one x c))
  linarith

/-- A class has the greatest probability exactly when it has the greatest logit. -/
theorem prob_eq_conf_iff (x : Row) (c : Fin 1000) : prob x c = conf x ↔ x c = top x := by
  rw [prob, conf, div_left_inj' (expSum_pos x).ne', Real.exp_eq_exp]

/-- Shifting a row's logits by one number leaves its probabilities alone. -/
theorem prob_shift (x : Row) (T : ℝ) (c : Fin 1000) :
    Real.exp (x c - T) / ∑ k, Real.exp (x k - T) = prob x c := by
  have h : ∀ k, Real.exp (x k - T) = Real.exp (x k) * Real.exp (-T) := fun k => by
    rw [← Real.exp_add, sub_eq_add_neg]
  simp only [h]
  rw [← Finset.sum_mul, mul_div_mul_right _ _ (Real.exp_pos _).ne', prob, expSum]

theorem sum_shift_pos (x : Row) (T : ℝ) : 0 < ∑ k, Real.exp (x k - T) :=
  Finset.sum_pos (fun c _ => Real.exp_pos _) ⟨0, Finset.mem_univ _⟩

/-- The log-probability computed from the shifted logits. -/
theorem log_shift (x : Row) (T : ℝ) (c : Fin 1000) :
    (x c - T) - Real.log (∑ k, Real.exp (x k - T)) = -nll x c := by
  have h : ∀ k, Real.exp (x k - T) = Real.exp (x k) * Real.exp (-T) := fun k => by
    rw [← Real.exp_add, sub_eq_add_neg]
  simp only [h]
  rw [← Finset.sum_mul, show (∑ k, Real.exp (x k)) = expSum x from rfl,
    Real.log_mul (expSum_pos x).ne' (Real.exp_pos _).ne', Real.log_exp, nll]
  ring

/-! ### The same on the extended reals -/

theorem coe_sum {ι : Type*} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

/-- The greatest of finitely many reals, taken on the extended reals from minus infinity. -/
theorem fold_max_coe (f : Row) : Finset.univ.fold max (⊥ : EReal) (fun c => (f c : EReal)) = (top f : EReal) := by
  change Finset.univ.sup (fun c => (f c : EReal)) = _
  refine le_antisymm (Finset.sup_le fun c _ => EReal.coe_le_coe_iff.mpr (le_top f c)) ?_
  obtain ⟨c, h⟩ := exists_top f
  rw [h]
  exact Finset.le_sup (f := fun c => (f c : EReal)) (Finset.mem_univ c)

theorem fold_max_prob (x : Row) :
    Finset.univ.fold max (⊥ : EReal) (fun c => (prob x c : EReal)) = (conf x : EReal) := by
  rw [fold_max_coe]
  refine congrArg Real.toEReal (le_antisymm (Finset.sup'_le _ _ fun c _ => prob_le_conf x c) ?_)
  obtain ⟨c, h⟩ := exists_conf x
  rw [h]
  exact le_top (prob x) c

theorem log_coe_pos {r : ℝ} (h : 0 < r) : Ideal.log (r : EReal) = (Real.log r : EReal) := by
  rw [Ideal.log_coe, if_neg (not_le.mpr h)]

theorem div_coe_coe (a : ℝ) {b : ℝ} (h : b ≠ 0) : Ideal.div (a : EReal) (b : EReal) = ((a / b : ℝ) : EReal) := by
  rw [Ideal.div_coe h, ← EReal.coe_mul]
  congr 1; ring

theorem sum_exp_coe (x : Row) : ∑ c, Ideal.exp (x c : EReal) = (expSum x : EReal) := by
  simp only [Ideal.exp_coe]; exact coe_sum _ _

/-- The greatest probability, from the exponentials unshifted. -/
theorem conf_plain (x : Row) :
    Ideal.exp (Finset.univ.fold max (⊥ : EReal) (fun c => (x c : EReal))) * Ideal.div 1 (∑ c, Ideal.exp (x c : EReal))
      = (conf x : EReal) := by
  rw [fold_max_coe, sum_exp_coe, Ideal.exp_coe, ← EReal.coe_one, div_coe_coe _ (expSum_pos x).ne', ← EReal.coe_mul]
  congr 1; rw [conf]; ring

/-- The entropy, from the exponentials unshifted. -/
theorem unc_plain (x : Row) :
    Ideal.log (∑ c, Ideal.exp (x c : EReal))
        - (∑ c, Ideal.exp (x c : EReal) * (x c : EReal)) * Ideal.div 1 (∑ c, Ideal.exp (x c : EReal))
      = (unc x : EReal) := by
  rw [sum_exp_coe, log_coe_pos (expSum_pos x), ← EReal.coe_one, div_coe_coe _ (expSum_pos x).ne']
  simp only [Ideal.exp_coe, ← EReal.coe_mul]
  rw [coe_sum, ← EReal.coe_mul, ← EReal.coe_sub]
  congr 1; rw [unc]; ring

/-- The negative log-likelihood, from the exponentials unshifted. -/
theorem nll_plain (x : Row) (l : Fin 1000) :
    Ideal.log (∑ c, Ideal.exp (x c : EReal)) - (x l : EReal) = (nll x l : EReal) := by
  rw [sum_exp_coe, log_coe_pos (expSum_pos x), ← EReal.coe_sub, nll]

/-- A probability, from the exponentials of the logits less the greatest. -/
theorem prob_softmax (x : Row) (c : Fin 1000) :
    Ideal.div (Ideal.exp ((x c : EReal) - (top x : EReal))) (∑ k, Ideal.exp ((x k : EReal) - (top x : EReal)))
      = (prob x c : EReal) := by
  simp only [← EReal.coe_sub, Ideal.exp_coe]
  rw [coe_sum, div_coe_coe _ (sum_shift_pos x _).ne', prob_shift]

/-- The entropy, from the probabilities. -/
theorem unc_softmax (x : Row) : -∑ c, (prob x c : EReal) * Ideal.log (prob x c : EReal) = (unc x : EReal) := by
  have h : ∀ c, (prob x c : EReal) * Ideal.log (prob x c : EReal) = ((prob x c * Real.log (prob x c) : ℝ) : EReal) :=
    fun c => by rw [log_coe_pos (prob_pos x c), ← EReal.coe_mul]
  simp only [h]
  rw [coe_sum, ← EReal.coe_neg, unc_eq]

/-- The log-probability of a class, from the logits less the greatest. -/
theorem nll_softmax (x : Row) (l : Fin 1000) :
    ((x l : EReal) - (top x : EReal)) - Ideal.log (∑ k, Ideal.exp ((x k : EReal) - (top x : EReal)))
      = ((-nll x l : ℝ) : EReal) := by
  simp only [← EReal.coe_sub, Ideal.exp_coe]
  rw [coe_sum, log_coe_pos (sum_shift_pos x _), ← EReal.coe_sub, log_shift]

/-! ### The label's class -/

/-- The word of a class number. -/
abbrev word (c : Fin 1000) : BitVec 32 := BitVec.ofNat 32 (c : ℕ)

theorem word_inj {a b : Fin 1000} (h : word a = word b) : a = b := by
  have := congrArg BitVec.toNat h
  simp only [word, BitVec.toNat_ofNat] at this
  exact Fin.ext (by omega)

/-- The sum that keeps the label's logit alone is the label's logit. -/
theorem sum_label (x : Fin 1000 → EReal) (l : Fin 1000) :
    ∑ c : Fin 1000, Scalar.select (IntOp.cmpi .eq (BitVec.ofNat 32 (c : ℕ)) (word l)) (x c) 0 = x l := by
  rw [Finset.sum_eq_single l]
  · simp [Scalar.select, IntOp.cmpi]
  · intro c _ hc
    have : (BitVec.ofNat 32 (c : ℕ) == word l) = false := beq_eq_false_iff_ne.mpr fun h => hc (word_inj h)
    simp [Scalar.select, IntOp.cmpi, this]
  · intro h; exact absurd (Finset.mem_univ _) h

/-- A comparison of words as the bit of a proposition. -/
theorem cmpi_eq_bit (a b : BitVec 32) (P : Prop) [Decidable P] (h : a = b ↔ P) :
    IntOp.cmpi .eq a b = BitVec.ofBool (decide P) := by
  by_cases hP : P
  · rw [h.mpr hP, decide_eq_true hP, IntOp.cmpi_eq_self]; rfl
  · have hab : (a == b) = false := beq_eq_false_iff_ne.mpr fun hab => hP (h.mp hab)
    rw [decide_eq_false hP]
    simp [IntOp.cmpi, hab]

/-- A class's word is not negative. -/
theorem word_not_neg (c : Fin 1000) : IntOp.cmpi .slt (word c) 0#32 = 0#1 := by
  have h : ∀ k : Fin 1000, IntOp.cmpi .slt (BitVec.ofNat 32 (k : ℕ)) 0#32 = 0#1 := by decide +kernel
  exact h c

end Cert.RowMath
-- ==== Proof.LossMath.lean ====
/- The mathematics of the loss, from each row's four numbers: the ratio of accurate-certain and inaccurate-uncertain
   weight at one threshold, its area over the 21 thresholds, and the two ways of adding that area up. No program here. -/
module

public import Idealize.ShloMosaic.PureOps.Ideal
public import Idealize.ShloMosaic.Lib.Pointwise
public import proofs.«01_k».proof.Proof.RowMath

@[expose] public section

noncomputable section

namespace Cert.LossMath

open Idealize.ShloMosaic

/-! ### The constants -/

theorem neg_inf_val : Ideal.ofBits .f32 0xFF800000#32 = (⊥ : EReal) := by
  simp [Ideal.ofBits, Ideal.ieee]

theorem half_val : Ideal.ofBits .f32 0x3F000000#32 = ((1 / 2 : ℝ) : EReal) := by
  simp [Ideal.ofBits, Ideal.ieee, -EReal.coe_mul]; norm_num

theorem twenty_val : Ideal.ofBits .f32 0x41A00000#32 = ((20 : ℝ) : EReal) := by
  simp [Ideal.ofBits, Ideal.ieee, -EReal.coe_mul]; norm_num

theorem rows_val : Ideal.ofBits .f32 0x47800000#32 = ((65536 : ℝ) : EReal) := by
  simp [Ideal.ofBits, Ideal.ieee, -EReal.coe_mul]; norm_num

/-- The guard added to the loss's denominators, a positive real. -/
theorem eps_val : ∃ e : ℝ, 0 < e ∧ Ideal.ofBits .f32 0x2B8CBCCC#32 = (e : EReal) := by
  refine ⟨_, ?_, by simp [Ideal.ofBits, Ideal.ieee, -EReal.coe_mul]; rfl⟩
  norm_num

/-! ### One threshold -/

variable {ι κ : Type} [Fintype ι] [Fintype κ]

/-- The bit that says that a row's uncertainty is at most the threshold. -/
def certain (U : ι → EReal) (θ : EReal) (r : ι) : BitVec 1 := BitVec.ofBool (decide (U r ≤ θ))

/-- The weight of the accurate and certain rows, -/
def accCert (h : ι → BitVec 1) (C U : ι → EReal) (θ : EReal) : EReal :=
  ∑ r, Scalar.select (IntOp.andi (h r) (certain U θ r)) (C r * (1 - Ideal.tanh (U r))) 0

/-- of the accurate and uncertain rows, -/
def accUnc (h : ι → BitVec 1) (C U : ι → EReal) (θ : EReal) : EReal :=
  ∑ r, Scalar.select (IntOp.andi (h r) (~~~(certain U θ r))) (C r * Ideal.tanh (U r)) 0

/-- of the inaccurate and certain rows, -/
def inaCert (h : ι → BitVec 1) (C U : ι → EReal) (θ : EReal) : EReal :=
  ∑ r, Scalar.select (IntOp.andi (~~~(h r)) (certain U θ r)) ((1 - C r) * (1 - Ideal.tanh (U r))) 0

/-- and of the inaccurate and uncertain rows. -/
def inaUnc (h : ι → BitVec 1) (C U : ι → EReal) (θ : EReal) : EReal :=
  ∑ r, Scalar.select (IntOp.andi (~~~(h r)) (~~~(certain U θ r))) ((1 - C r) * Ideal.tanh (U r)) 0

/-- Accuracy versus uncertainty at one threshold. -/
def avu (h : ι → BitVec 1) (C U : ι → EReal) (θ : EReal) : EReal :=
  Ideal.div (accCert h C U θ + inaUnc h C U θ)
    (accCert h C U θ + accUnc h C U θ + inaCert h C U θ + inaUnc h C U θ + Ideal.ofBits .f32 0x2B8CBCCC#32)

/-- The least and the greatest uncertainty of the rows. -/
def least (U : ι → EReal) : EReal := Finset.univ.fold min (Ideal.ofBits .f32 0x7F800000#32) U
def greatest (U : ι → EReal) : EReal := Finset.univ.fold max (Ideal.ofBits .f32 0xFF800000#32) U

/-- The `i`-th threshold, a twentieth of the range of the uncertainties at a time. -/
def threshold (U : ι → EReal) (i : ℕ) : EReal :=
  least U + (((i : ℝ) / 20 : ℝ) : EReal) * (greatest U - least U)

theorem fold_equiv (e : ι ≃ κ) (op : EReal → EReal → EReal) [Std.Commutative op] [Std.Associative op] (b : EReal)
    (f : κ → EReal) : Finset.univ.fold op b (fun i => f (e i)) = Finset.univ.fold op b f := by
  rw [← Finset.univ_map_equiv_to_embedding e, Finset.fold_map]
  rfl

/-- Naming the rows otherwise changes nothing. -/
theorem avu_equiv (e : ι ≃ κ) (h : κ → BitVec 1) (C U : κ → EReal) (θ : EReal) :
    avu (fun i => h (e i)) (fun i => C (e i)) (fun i => U (e i)) θ = avu h C U θ := by
  have h1 : accCert (fun i => h (e i)) (fun i => C (e i)) (fun i => U (e i)) θ = accCert h C U θ :=
    Equiv.sum_comp e fun r => Scalar.select (IntOp.andi (h r) (certain U θ r)) (C r * (1 - Ideal.tanh (U r))) 0
  have h2 : accUnc (fun i => h (e i)) (fun i => C (e i)) (fun i => U (e i)) θ = accUnc h C U θ :=
    Equiv.sum_comp e fun r => Scalar.select (IntOp.andi (h r) (~~~(certain U θ r))) (C r * Ideal.tanh (U r)) 0
  have h3 : inaCert (fun i => h (e i)) (fun i => C (e i)) (fun i => U (e i)) θ = inaCert h C U θ :=
    Equiv.sum_comp e fun r => Scalar.select (IntOp.andi (~~~(h r)) (certain U θ r)) ((1 - C r) * (1 - Ideal.tanh (U r))) 0
  have h4 : inaUnc (fun i => h (e i)) (fun i => C (e i)) (fun i => U (e i)) θ = inaUnc h C U θ :=
    Equiv.sum_comp e fun r => Scalar.select (IntOp.andi (~~~(h r)) (~~~(certain U θ r))) ((1 - C r) * Ideal.tanh (U r)) 0
  rw [avu, h1, h2, h3, h4, avu]

theorem threshold_equiv (e : ι ≃ κ) (U : κ → EReal) (i : ℕ) : threshold (fun k => U (e k)) i = threshold U i := by
  rw [threshold, threshold, least, greatest, fold_equiv e, fold_equiv e]
  rfl

/-- A sum of nonnegative reals, each kept or replaced by zero, is a nonnegative real. -/
theorem kept_sum_real (b : ι → BitVec 1) (f : ι → ℝ) (hf : ∀ r, 0 ≤ f r) :
    ∃ s : ℝ, 0 ≤ s ∧ ∑ r, Scalar.select (b r) (f r : EReal) 0 = (s : EReal) := by
  refine ⟨∑ r, Scalar.select (b r) (f r) 0, Finset.sum_nonneg fun r _ => ?_, ?_⟩
  · unfold Scalar.select; split
    · exact hf r
    · exact le_rfl
  · rw [← RowMath.coe_sum]
    refine Finset.sum_congr rfl fun r _ => ?_
    unfold Scalar.select; split <;> simp

theorem tanh_nonneg {u : ℝ} (h : 0 ≤ u) : 0 ≤ Real.tanh u := by
  rw [Real.tanh_eq_sinh_div_cosh]
  exact div_nonneg (Real.sinh_nonneg_iff.mpr h) (Real.cosh_pos u).le

/-- Where the rows' numbers are reals in their ranges, so is the ratio a real. -/
theorem avu_real (h : ι → BitVec 1) (c u : ι → ℝ) (hc0 : ∀ r, 0 ≤ c r) (hc1 : ∀ r, c r ≤ 1) (hu : ∀ r, 0 ≤ u r) (θ : EReal) :
    ∃ a : ℝ, avu h (fun r => (c r : EReal)) (fun r => (u r : EReal)) θ = (a : EReal) := by
  obtain ⟨e, he, hev⟩ := eps_val
  have ht1 : ∀ r, 0 ≤ 1 - Real.tanh (u r) := fun r => sub_nonneg.mpr (Real.tanh_lt_one (u r)).le
  have ht0 : ∀ r, 0 ≤ Real.tanh (u r) := fun r => tanh_nonneg (hu r)
  have hc : ∀ r, 0 ≤ 1 - c r := fun r => sub_nonneg.mpr (hc1 r)
  obtain ⟨s1, p1, e1⟩ : ∃ s : ℝ, 0 ≤ s ∧ accCert h (fun r => (c r : EReal)) (fun r => (u r : EReal)) θ = s := by
    unfold accCert
    simp only [Ideal.tanh_coe, ← EReal.coe_one, ← EReal.coe_sub, ← EReal.coe_mul]
    exact kept_sum_real _ _ fun r => mul_nonneg (hc0 r) (ht1 r)
  obtain ⟨s2, p2, e2⟩ : ∃ s : ℝ, 0 ≤ s ∧ accUnc h (fun r => (c r : EReal)) (fun r => (u r : EReal)) θ = s := by
    unfold accUnc
    simp only [Ideal.tanh_coe, ← EReal.coe_mul]
    exact kept_sum_real _ _ fun r => mul_nonneg (hc0 r) (ht0 r)
  obtain ⟨s3, p3, e3⟩ : ∃ s : ℝ, 0 ≤ s ∧ inaCert h (fun r => (c r : EReal)) (fun r => (u r : EReal)) θ = s := by
    unfold inaCert
    simp only [Ideal.tanh_coe, ← EReal.coe_one, ← EReal.coe_sub, ← EReal.coe_mul]
    exact kept_sum_real _ _ fun r => mul_nonneg (hc r) (ht1 r)
  obtain ⟨s4, p4, e4⟩ : ∃ s : ℝ, 0 ≤ s ∧ inaUnc h (fun r => (c r : EReal)) (fun r => (u r : EReal)) θ = s := by
    unfold inaUnc
    simp only [Ideal.tanh_coe, ← EReal.coe_one, ← EReal.coe_sub, ← EReal.coe_mul]
    exact kept_sum_real _ _ fun r => mul_nonneg (hc r) (ht0 r)
  refine ⟨(s1 + s4) / (s1 + s2 + s3 + s4 + e), ?_⟩
  rw [avu, e1, e2, e3, e4, hev]
  simp only [← EReal.coe_add]
  exact RowMath.div_coe_coe _ (by positivity)

/-! ### The area -/

/-- The trapezoid rule's weights: a half at both ends. -/
def weight (k : ℕ) : ℝ := if k = 0 ∨ k = 20 then 1 / 2 else 1

/-- The area by the trapezoid rule over twenty steps is the weighted sum of the 21 heights. -/
theorem trapezoid (a : ℕ → ℝ) :
    1 / 2 * ∑ k : Fin 20, (a (k + 1) + a k) * (((k : ℕ) + 1 : ℕ) / 20 - ((k : ℕ) : ℝ) / 20)
      = ∑ k : Fin 21, weight k * a k * (1 / 20) := by
  have h : ∀ k : Fin 20, (a (k + 1) + a k) * (((k : ℕ) + 1 : ℕ) / 20 - ((k : ℕ) : ℝ) / 20) = (a (k + 1) + a k) * (1 / 20) :=
    fun k => by push_cast; ring
  simp only [h]
  simp only [Fin.sum_univ_succ, weight]
  simp
  ring

/-- A running total over the thresholds of real numbers is the sum of the numbers. -/
theorem foldl_coe {n : ℕ} (g : Fin n → ℝ) :
    (List.finRange n).foldl (fun (acc : EReal) k => acc + (g k : EReal)) 0 = ((∑ k, g k : ℝ) : EReal) := by
  have h : ∀ (l : List (Fin n)) (s : ℝ), l.foldl (fun (acc : EReal) k => acc + (g k : EReal)) (s : EReal)
      = ((s + (l.map g).sum : ℝ) : EReal) := by
    intro l
    induction l with
    | nil => intro s; simp
    | cons a l ih =>
      intro s
      rw [List.foldl_cons, ← EReal.coe_add, ih, List.map_cons, List.sum_cons, add_assoc]
  have := h (List.finRange n) 0
  rw [EReal.coe_zero] at this
  rw [this, zero_add, ← List.ofFn_eq_map, List.sum_ofFn]

/-- The loss as the weighted sum of the ratios computes it. -/
def lossWeighted (h : ι → BitVec 1) (C U N : ι → EReal) : EReal :=
  Ideal.ofBits .f32 0xC0400000#32 * Ideal.log
      ((List.finRange 21).foldl (fun (acc : EReal) (k : Fin 21) =>
        acc + (weight k : EReal) * avu h C U (threshold U k) * ((1 / 20 : ℝ) : EReal)) 0 + Ideal.ofBits .f32 0x2B8CBCCC#32)
    + Ideal.div (∑ r, N r) (Ideal.ofBits .f32 0x47800000#32)

/-- The loss as the trapezoid rule over neighbouring thresholds computes it; `L` is each label's log-probability. -/
def lossTrapezoid (h : ι → BitVec 1) (C U L : ι → EReal) : EReal :=
  Ideal.ofBits .f32 0xC0400000#32 * Ideal.log
      (Ideal.ofBits .f32 0x3F000000#32 * (∑ k : Fin 20,
        (avu h C U (threshold U (k + 1)) + avu h C U (threshold U k))
          * ((((((k : ℕ) + 1 : ℕ) : ℝ) / 20 : ℝ) : EReal) - ((((k : ℕ) : ℝ) / 20 : ℝ) : EReal))) + Ideal.ofBits .f32 0x2B8CBCCC#32)
    + -(Ideal.div (∑ r, L r) (Ideal.ofBits .f32 0x47800000#32))

/-- The two losses agree. -/
theorem loss_eq (h : ι → BitVec 1) (c u n : ι → ℝ) (hc0 : ∀ r, 0 ≤ c r) (hc1 : ∀ r, c r ≤ 1) (hu : ∀ r, 0 ≤ u r) :
    lossTrapezoid h (fun r => (c r : EReal)) (fun r => (u r : EReal)) (fun r => ((-n r : ℝ) : EReal))
      = lossWeighted h (fun r => (c r : EReal)) (fun r => (u r : EReal)) (fun r => (n r : EReal)) := by
  choose a ha using fun θ => avu_real h c u hc0 hc1 hu θ
  unfold lossTrapezoid lossWeighted
  simp only [ha, half_val, rows_val, ← EReal.coe_add, ← EReal.coe_sub, ← EReal.coe_mul]
  rw [foldl_coe, RowMath.coe_sum, RowMath.coe_sum, RowMath.coe_sum, RowMath.div_coe_coe _ (by norm_num),
    RowMath.div_coe_coe _ (by norm_num), ← EReal.coe_mul, ← EReal.coe_neg, Finset.sum_neg_distrib, neg_div, neg_neg]
  rw [trapezoid fun k => a (threshold (fun r => (u r : EReal)) k)]

/-- Naming the rows otherwise leaves the loss alone. -/
theorem lossWeighted_equiv (e : ι ≃ κ) (h : κ → BitVec 1) (C U N : κ → EReal) :
    lossWeighted (fun i => h (e i)) (fun i => C (e i)) (fun i => U (e i)) (fun i => N (e i)) = lossWeighted h C U N := by
  unfold lossWeighted
  simp only [threshold_equiv e U, avu_equiv e]
  rw [Equiv.sum_comp e N]

end Cert.LossMath
-- ==== Proof.KernelFinal.lean ====
/- What the finalize kernel computes from its four planes of statistics: the loss as a weighted sum over the 21
   thresholds, plus the mean of the negative log-likelihoods. -/
module

public import proofs.«01_k».proof.Proof.KernelIdealRun
public import proofs.«01_k».proof.Proof.LossMath
public import Idealize.ShloMosaic.Lib.Pointwise
public import Idealize.ShloMosaic.Lib.Pipeline.ValueKit

@[expose] public section

set_option maxRecDepth 16384

noncomputable section

namespace Cert.KernelFinal

open Idealize.ShloMosaic Cert.KernelIdeal Cert.KernelIdeal.Gen Cert.KernelIdeal.Run
open Cert.LossMath

/-- A place in a plane. -/
abbrev Place := Fin 512 × Fin 128

/-- A plane's entries by place. -/
def at3 (v : Vec Ideal S1x512x128 .f32) (p : Place) : EReal := v (ix3 0 p.1 p.2)

/-- The bit that says that the plane of hits holds more than a half. -/
def over (v : Vec Ideal S1x512x128 .f32) (p : Place) : BitVec 1 := BitVec.ofBool (decide (Ideal.ofBits .f32 0x3F000000#32 < at3 v p))

theorem pay4_apply (v : Vec Ideal S1x512x128 .f32) (a : Fin 512) (b : Fin 128) : k1_pay4 v (ix2 a b) = at3 v (a, b) := by
  unfold at3
  pointwise [k1_pay4]

theorem pay5_apply (v : Vec Ideal S1x512x128 .f32) (a : Fin 512) (b : Fin 128) : k1_pay5 v (ix2 a b) = at3 v (a, b) := by
  unfold at3
  pointwise [k1_pay5]

theorem pay6_apply (v : Vec Ideal S1x512x128 .f32) : k1_pay6 v = least (at3 v) := by
  pointwise [k1_pay6, k1_pay4]
  rfl

theorem pay13_apply (v : Vec Ideal S1x512x128 .f32) : k1_pay13 v = greatest (at3 v) - least (at3 v) := by
  rw [← pay6_apply]
  pointwise [k1_pay13, k1_pay4]
  rfl

theorem pay12_apply (v : Vec Ideal S1x512x128 .f32) (a : Fin 512) (b : Fin 128) : k1_pay12 v (ix2 a b) = over v (a, b) := by
  unfold over at3
  pointwise [k1_pay12]

theorem pay8_apply (v0 v2 : Vec Ideal S1x512x128 .f32) (a : Fin 512) (b : Fin 128) :
    k1_pay8 v0 v2 (ix2 a b) = at3 v0 (a, b) * (1 - Ideal.tanh (at3 v2 (a, b))) := by
  unfold at3
  pointwise [k1_pay8, k1_pay3, k1_pay4, k1_pay7]

theorem pay9_apply (v0 v2 : Vec Ideal S1x512x128 .f32) (a : Fin 512) (b : Fin 128) :
    k1_pay9 v0 v2 (ix2 a b) = at3 v0 (a, b) * Ideal.tanh (at3 v2 (a, b)) := by
  unfold at3
  pointwise [k1_pay9, k1_pay3, k1_pay4, k1_pay7]

theorem pay10_apply (v0 v2 : Vec Ideal S1x512x128 .f32) (a : Fin 512) (b : Fin 128) :
    k1_pay10 v0 v2 (ix2 a b) = (1 - at3 v0 (a, b)) * (1 - Ideal.tanh (at3 v2 (a, b))) := by
  unfold at3
  pointwise [k1_pay10, k1_pay3, k1_pay4, k1_pay7]

theorem pay11_apply (v0 v2 : Vec Ideal S1x512x128 .f32) (a : Fin 512) (b : Fin 128) :
    k1_pay11 v0 v2 (ix2 a b) = (1 - at3 v0 (a, b)) * Ideal.tanh (at3 v2 (a, b)) := by
  unfold at3
  pointwise [k1_pay11, k1_pay3, k1_pay4, k1_pay7]

/-- The sum of a plane's entries where a bit is set. -/
def keptSum (b : Place → BitVec 1) (w : FVec Ideal S512x128 .f32) : EReal :=
  ∑ p : Place, Scalar.select (b p) (w (ix2 p.1 p.2)) 0

theorem keptSum_eq (b : Place → BitVec 1) (w : FVec Ideal S512x128 .f32) :
    ∑ p, ∑ q, Scalar.select (b (p, q)) (w (ix2 p q)) 0 = keptSum b w :=
  (Fintype.sum_prod_type' fun p q => Scalar.select (b (p, q)) (w (ix2 p q)) 0).symm

/-- The bit of a threshold at a place. -/
def under (U : FVec Ideal S512x128 .f32) (θ : EReal) (p : Place) : BitVec 1 := BitVec.ofBool (decide (U (ix2 p.1 p.2) ≤ θ))

/-- The threshold of a trip. -/
def level (lo du : EReal) (k : Fin k1_t1_loop.trips) : EReal :=
  lo + (((Scf.iv 0#32 1#32 k).toInt : ℝ) : EReal) * ((1 / 20 : ℝ) : EReal) * du

theorem step_val : (Named.named κ "step" (0x3D4CCCCD#32 : BitVec (FTy.bits .f32)) : Ideal .f32) = ((1 / 20 : ℝ) : EReal) :=
  IdealRules.named_const.ideal_named_scalar _ _ _ _ rfl

/-- The ratio of one trip. -/
theorem pay2_apply (U ac au ic iu : FVec Ideal S512x128 .f32) (lo du : EReal) (h : IVec S512x128 1) (k : Fin k1_t1_loop.trips) :
    k1_pay2 (F := Ideal) U lo ac au ic iu h du 0#32 1#32 k
      = Ideal.div
          (keptSum (fun p => IntOp.andi (under U (level lo du k) p) (h (ix2 p.1 p.2))) ac
            + keptSum (fun p => IntOp.andi (IntOp.xori (under U (level lo du k) p) 1#1) (IntOp.xori (h (ix2 p.1 p.2)) 1#1)) iu)
          (keptSum (fun p => IntOp.andi (under U (level lo du k) p) (h (ix2 p.1 p.2))) ac
            + keptSum (fun p => IntOp.andi (IntOp.xori (under U (level lo du k) p) 1#1) (h (ix2 p.1 p.2))) au
            + keptSum (fun p => IntOp.andi (under U (level lo du k) p) (IntOp.xori (h (ix2 p.1 p.2)) 1#1)) ic
            + keptSum (fun p => IntOp.andi (IntOp.xori (under U (level lo du k) p) 1#1) (IntOp.xori (h (ix2 p.1 p.2)) 1#1)) iu
            + Ideal.ofBits .f32 0x2B8CBCCC#32) := by
  simp only [← keptSum_eq]
  pointwise [k1_pay2]
  simp only [step_val]
  rfl

theorem xori_one (x : BitVec 1) : IntOp.xori x 1#1 = ~~~x := by revert x; decide

theorem andi_swap (x y : BitVec 1) : IntOp.andi x y = IntOp.andi y x := by revert x y; decide

/-- A trip's number. -/
theorem iv_val (k : Fin k1_t1_loop.trips) : (Scf.iv 0#32 1#32 k).toInt = (k : ℕ) := by
  revert k; decide +kernel

/-- The bit that says that a trip is the first or the last. -/
theorem ends_bit (k : Fin k1_t1_loop.trips) : Scalar.ori (Scalar.cmpi .eq (Scf.iv 0#32 1#32 k) 0#32)
      (Scalar.cmpi .eq (Scf.iv 0#32 1#32 k) 20#32) = if (k : ℕ) = 0 ∨ (k : ℕ) = 20 then 1#1 else 0#1 := by
  revert k; decide +kernel

/-- A trip's threshold is the threshold of its number. -/
theorem level_eq (U : Place → EReal) (k : Fin k1_t1_loop.trips) : level (least U) (greatest U - least U) k = threshold U k := by
  unfold level threshold
  rw [iv_val, ← EReal.coe_mul]
  congr 3
  push_cast
  ring

/-- The ratio of a trip over the four planes is that of the threshold of its number. -/
theorem ratio_eq (v0 v2 v4 : Vec Ideal S1x512x128 .f32) (k : Fin k1_t1_loop.trips) :
    k1_pay2 (F := Ideal) (k1_pay4 v2) (k1_pay6 v2) (k1_pay8 v0 v2) (k1_pay9 v0 v2) (k1_pay10 v0 v2) (k1_pay11 v0 v2)
        (k1_pay12 v4) (k1_pay13 v2) 0#32 1#32 k
      = avu (over v4) (at3 v0) (at3 v2) (threshold (at3 v2) k) := by
  rw [pay2_apply, pay6_apply, pay13_apply, level_eq]
  have hu : under (k1_pay4 v2) (threshold (at3 v2) k) = certain (at3 v2) (threshold (at3 v2) k) := by
    funext p
    unfold under certain
    rw [pay4_apply]
  simp only [hu, xori_one, pay12_apply, keptSum, pay8_apply, pay9_apply, pay10_apply, pay11_apply]
  unfold avu accCert accUnc inaCert inaUnc
  simp only [andi_swap (over v4 _), andi_swap (~~~(over v4 _))]

theorem pay14_apply (acc z : EReal) (k : BitVec 32) :
    k1_pay14 (F := Ideal) acc k z 0#32 = acc + Scalar.select (Scalar.ori (Scalar.cmpi .eq k 0#32) (Scalar.cmpi .eq k 20#32))
      (Ideal.ofBits .f32 0x3F000000#32) 1 * z * ((1 / 20 : ℝ) : EReal) := by
  pointwise [k1_pay14]
  simp only [step_val]

/-- One trip of the loop. -/
theorem trip_eq (v0 v2 v4 : Vec Ideal S1x512x128 .f32) (k : Fin k1_t1_loop.trips) (acc : EReal) :
    trip (F := Ideal) v0 v2 v4 k acc
      = acc + (weight k : EReal) * avu (over v4) (at3 v0) (at3 v2) (threshold (at3 v2) k) * ((1 / 20 : ℝ) : EReal) := by
  unfold trip
  rw [pay14_apply, ratio_eq, ends_bit]
  congr 3
  unfold weight
  by_cases h : (k : ℕ) = 0 ∨ (k : ℕ) = 20
  · rw [if_pos h, if_pos h, half_val]; rfl
  · rw [if_neg h, if_neg h, EReal.coe_one]; rfl

theorem pay1_apply (w : FVec Ideal S512x128 .f32) (z : EReal) :
    k1_pay1 (F := Ideal) w z (ix2 0 0) = Ideal.ofBits .f32 0xC0400000#32 * Ideal.log z
      + Ideal.div (∑ p : Fin 512, ∑ q : Fin 128, w (ix2 p q)) (Ideal.ofBits .f32 0x47800000#32) := by
  pointwise [k1_pay1]
  rfl

/-- The finalize kernel's result from its planes. -/
theorem final_eq (v0 v2 v4 v6 : Vec Ideal S1x512x128 .f32) :
    k1_pay1 (F := Ideal) (k1_pay5 v6) (k1_pay15 (Scf.fold (trip v0 v2 v4) (Scalar.ofBits .f32 0x00000000#32))) (ix2 0 0)
      = lossWeighted (over v4) (at3 v0) (at3 v2) (at3 v6) := by
  rw [pay1_apply]
  unfold lossWeighted
  have hs : (∑ p : Fin 512, ∑ q : Fin 128, k1_pay5 v6 (ix2 p q)) = ∑ r : Place, at3 v6 r :=
    (Finset.sum_congr rfl fun p _ => Finset.sum_congr rfl fun q _ => pay5_apply v6 p q).trans
      (Fintype.sum_prod_type' fun p q => at3 v6 (p, q)).symm
  have hz : Scf.fold (trip v0 v2 v4) (Scalar.ofBits (F := Ideal) .f32 0x00000000#32)
      = (List.finRange 21).foldl (fun (acc : EReal) (k : Fin 21) =>
        acc + (weight k : EReal) * avu (over v4) (at3 v0) (at3 v2) (threshold (at3 v2) k) * ((1 / 20 : ℝ) : EReal)) 0 := by
    rw [Scf.fold_eq]
    have h0 : (Scalar.ofBits (F := Ideal) .f32 0x00000000#32 : EReal) = 0 := Ideal.ofBits_zero_f32
    rw [h0]
    exact congrArg (fun f => (List.finRange 21).foldl f (0 : EReal)) (funext fun acc => funext fun k => trip_eq v0 v2 v4 k acc)
  rw [hs, hz]
  rfl

end Cert.KernelFinal
-- ==== Proof.KernelStats.lean ====
/- What the kernel's two regions leave: the array of row statistics, then the loss over it. -/
module

public import proofs.«01_k».proof.Proof.KernelBlock
public import proofs.«01_k».proof.Proof.KernelFinal

@[expose] public section

set_option maxRecDepth 16384

noncomputable section

namespace Cert.KernelStats

open Idealize.ShloMosaic Idealize.ShloMosaic.TcCoe Idealize.SL.Sem
open Cert.KernelIdeal Cert.KernelIdeal.Gen Cert.KernelIdeal.Run
open Cert.LossMath Cert.KernelRow Cert.KernelFinal

variable (m : (ℓ : Loc nD τ sig) → Buf (Elt Ideal) ℓ) (ρ : Dev nD → PrngReg)

/-- Where each window of the statistics region stands at a point. -/
theorem idx : ∀ t : Fin cfg0.N, win0_0.index t = ![t.val, 0] ∧ win0_1.index t = ![t.val, 0, 0] ∧ win0_2.index t = ![0, t.val]
    ∧ t.val < 32 :=
  (by decide +kernel : ∀ t : Fin grid0.N, _)

/-- The finalize region's windows are its whole arrays. -/
theorem idx1 : ∀ t : Fin cfg1.N, win1_0.index t = ![0, 0, 0] ∧ win1_1.index t = ![0, 0] :=
  (by decide +kernel : ∀ t : Fin grid1.N, _)

/-- The logits at entry of the statistics region. -/
theorem logits_entry (c : Dev nD) : V1 m ρ c main_arg0 = m ((c : Thread nD τ).loc main_arg0) :=
  W1_args m ρ c main_arg0 (by decide)

/-- The labels at entry of the statistics region: the argument, laid out by block. -/
theorem labels_entry (c : Dev nD) (b : Fin 32) (r : Fin 2048) :
    (V1 m ρ c main_call0_v0 : IVec S32x1x2048 32) (ix3 b 0 r)
      = (m ((c : Thread nD τ).loc main_arg1) : IVec S65536 32) (ix1 ⟨b * 2048 + r, by omega⟩) := by
  have h : (V1 m ρ c main_call0_v0 : IVec S32x1x2048 32)
      = shapeCast S32x1x2048 (m ((c : Thread nD τ).loc main_arg1) : IVec S65536 32)
          (show S65536.ShapeCasts S32x1x2048 by decide +kernel) := rfl
  rw [h]
  pointwise

/-- The array of statistics. -/
def stats (X : FVec Ideal S65536x1000 .f32) (L : IVec S65536 32) : FVec Ideal S4x65536 .f32 := fun i =>
  rowStat (i 0) (fun k => X (ix2 (i 1) k)) (L (ix1 (i 1)))

/-- The statistics region leaves the array of statistics. -/
theorem stats_array (c : Dev nD) : (dat0 (V1 m ρ) c).arrAt 2 cfg0.N
    = stats (m ((c : Thread nD τ).loc main_arg0)) (m ((c : Thread nD τ).loc main_arg1)) := by
  refine (dat0 (V1 m ρ) c).arrAt_eq_of_covers 2 _ (by decide +kernel) fun t _ y => ?_
  blk_simp
  rw [after0_2]
  have ht := (idx t).2.2.2
  obtain ⟨a, r, rfl⟩ : ∃ (a : Fin 4) (r : Fin 2048), y = ix2 a r := ⟨y 0, y 1, by
    funext k
    match k with
    | ⟨0, _⟩ => rfl
    | ⟨1, _⟩ => rfl⟩
  have he : (win0_2.blk t).view.emb (ix2 a r) = (ix2 a ⟨t.val * 2048 + r, by omega⟩ : S4x65536.Idx) := by
    blk_ext [idx t]
  have hx : ∀ k, (iblk0 (V1 m ρ) c 0 t : Vec Ideal S2048x1000 .f32) (ix2 r k)
      = (m ((c : Thread nD τ).loc main_arg0) : FVec Ideal S65536x1000 .f32) (ix2 ⟨t.val * 2048 + r, by omega⟩ k) := fun k => by
    rw [← logits_entry m ρ c]
    blk_simp [iblk0]
    blk_ext [idx t]
  have hl : (iblk0 (V1 m ρ) c 1 t : Vec Ideal S1x1x2048 .i32) (ix3 0 0 r)
      = (m ((c : Thread nD τ).loc main_arg1) : IVec S65536 32) (ix1 ⟨t.val * 2048 + r, by omega⟩) := by
    refine Eq.trans ?_ (labels_entry m ρ c ⟨t.val, ht⟩ r)
    blk_simp [iblk0]
    blk_ext [idx t]
  refine (out_apply _ _ a r).trans ?_
  rw [he, hl]
  exact congrArg (fun f => rowStat a f _) (funext hx)

/-- The statistics by plane, at entry of the finalize region. -/
theorem planes_entry (c : Dev nD) (a : Fin 4) (p : Fin 512) (q : Fin 128) :
    (V3 m ρ c main_call0_v2 : FVec Ideal S4x512x128 .f32) (ix3 a p q)
      = stats (m ((c : Thread nD τ).loc main_arg0)) (m ((c : Thread nD τ).loc main_arg1)) (ix2 a ⟨p * 128 + q, by omega⟩) := by
  have h : (V3 m ρ c main_call0_v2 : FVec Ideal S4x512x128 .f32)
      = shapeCast S4x512x128 (W2 m ρ c (Proc.devRef .tc main_call0_v1) : FVec Ideal S4x65536 .f32)
          (show S4x65536.ShapeCasts S4x512x128 by decide +kernel) := rfl
  rw [h, show W2 m ρ c (Proc.devRef .tc main_call0_v1) = _ from W2_arr m ρ c 2, stats_array]
  generalize stats (m ((c : Thread nD τ).loc main_arg0)) (m ((c : Thread nD τ).loc main_arg1)) = S
  pointwise

/-- The finalize region leaves the loss over the planes. -/
theorem final_array (c : Dev nD) : (dat1 (V3 m ρ) c).arrAt 1 cfg1.N = out1_1 (V3 m ρ c main_call0_v2) := by
  refine (dat1 (V3 m ρ) c).arrAt_eq_of_covers 1 _ (by decide +kernel) fun t _ y => ?_
  blk_simp
  rw [after1_1]
  have hv : (iblk1 (V3 m ρ) c 0 t : Vec Ideal S4x512x128 .f32) = V3 m ρ c main_call0_v2 := by blk_ext! [iblk1, idx1 t]
  have he : ((win1_1.blk t).view.emb y : S1x1.Idx) = y := by blk_ext [idx1 t]
  rw [he]
  exact congrFun (congrArg out1_1 hv) y

/-- The kernel's result. -/
theorem result_entry (c : Dev nD) : (W5 m ρ c (Proc.devRef .tc main_v0) : FVec Ideal S1 .f32) (ix1 0)
    = out1_1 (V3 m ρ c main_call0_v2) (ix2 0 0) := by
  have h : (W5 m ρ c (Proc.devRef .tc main_v0) : FVec Ideal S1 .f32)
      = shapeCast S1 (W4 m ρ c (Proc.devRef .tc main_call0_v3) : FVec Ideal S1x1 .f32)
          (show S1x1.ShapeCasts S1 by decide +kernel) := rfl
  rw [h, show W4 m ρ c (Proc.devRef .tc main_call0_v3) = _ from W4_arr m ρ c 1, final_array]
  generalize out1_1 (V3 m ρ c main_call0_v2) = S
  pointwise

/-- A plane of the array, read. -/
theorem plane_apply (x : Vec Ideal S4x512x128 .f32) (p : Place) :
    at3 (View.ld x r1_0) p = x (ix3 0 p.1 p.2) ∧ at3 (View.ld x r1_1) p = x (ix3 1 p.1 p.2)
      ∧ at3 (View.ld x r1_2) p = x (ix3 2 p.1 p.2) ∧ at3 (View.ld x r1_3) p = x (ix3 3 p.1 p.2) := by
  unfold at3
  refine ⟨?_, ?_, ?_, ?_⟩ <;> pointwise

/-- The result over the planes of the array of statistics. -/
theorem out1_apply (x : Vec Ideal S4x512x128 .f32) :
    out1_1 x (ix2 0 0) = lossWeighted (fun p : Place => BitVec.ofBool (decide (Ideal.ofBits .f32 0x3F000000#32 < x (ix3 2 p.1 p.2))))
      (fun p => x (ix3 0 p.1 p.2)) (fun p => x (ix3 1 p.1 p.2)) (fun p => x (ix3 3 p.1 p.2)) := by
  unfold out1_1
  rw [View.canon_unit_zero (by funext k; fin_cases k <;> rfl), final_eq]
  have h0 := funext fun p => (plane_apply x p).1
  have h1 := funext fun p => (plane_apply x p).2.1
  have h2 := funext fun p => (plane_apply x p).2.2.1
  have h3 := funext fun p => (plane_apply x p).2.2.2
  unfold over
  rw [h0, h1, h2, h3]

open Cert.RowMath

/-- The four statistics of a row of reals. -/
theorem rowStat_conf (x : Row) (l : BitVec 32) : rowStat 0 (fun k => (x k : EReal)) l = (conf x : EReal) := by
  show Ideal.exp (rowMax _) * Ideal.div 1 (rowSum _) = _
  unfold rowMax rowSum
  rw [neg_inf_val, conf_plain]

theorem rowStat_unc (x : Row) (l : BitVec 32) : rowStat 1 (fun k => (x k : EReal)) l = (unc x : EReal) := unc_plain x

theorem rowStat_hit (x : Row) (l : Fin 1000) :
    BitVec.ofBool (decide (Ideal.ofBits .f32 0x3F000000#32 < rowStat 2 (fun k => (x k : EReal)) (word l))) = hitBit x l := by
  have h : rowStat 2 (fun k => (x k : EReal)) (word l) = if (x l : EReal) = (top x : EReal) then 1 else 0 := by
    show (if rowLab _ _ = rowMax _ then (1 : EReal) else 0) = _
    unfold rowLab rowMax
    rw [sum_label, neg_inf_val, fold_max_coe]
  rw [h, half_val]
  unfold hitBit
  by_cases hx : x l = top x
  · rw [if_pos (congrArg _ hx), decide_eq_true hx, decide_eq_true]
    exact_mod_cast (by norm_num : (1 / 2 : ℝ) < 1)
  · rw [if_neg fun e => hx (EReal.coe_injective e), decide_eq_false hx, decide_eq_false]
    rw [not_lt]
    exact_mod_cast (by norm_num : (0 : ℝ) ≤ 1 / 2)

theorem rowStat_nll (x : Row) (l : Fin 1000) : rowStat 3 (fun k => (x k : EReal)) (word l) = (nll x l : EReal) := by
  show Ideal.log (rowSum _) - rowLab _ _ = _
  unfold rowLab
  rw [sum_label]
  exact nll_plain x l

/-- A place in a plane is a row: a row of lanes after the other. -/
def rowOf : Place ≃ Fin 65536 := finProdFinEquiv.trans (finCongr (by norm_num))

theorem rowOf_val (p : Place) : (⟨(p.1 : ℕ) * 128 + p.2, by omega⟩ : Fin 65536) = rowOf p := by
  refine Fin.ext ?_
  show (p.1 : ℕ) * 128 + p.2 = (p.2 : ℕ) + 128 * p.1
  omega

/-- The kernel's result is the weighted loss over the rows. -/
theorem result_apply {x : Fin 65536 → Row} {l : Fin 65536 → Fin 1000} (c : Dev nD)
    (hx : ∀ r k, (m ((c : Thread nD τ).loc main_arg0) : FVec Ideal S65536x1000 .f32) (ix2 r k) = (x r k : EReal))
    (hl : ∀ r, (m ((c : Thread nD τ).loc main_arg1) : IVec S65536 32) (ix1 r) = word (l r)) :
    (W5 m ρ c (Proc.devRef .tc main_v0) : FVec Ideal S1 .f32) (ix1 0)
      = lossWeighted (fun r => hitBit (x r) (l r)) (fun r => (conf (x r) : EReal)) (fun r => (unc (x r) : EReal))
          (fun r => (nll (x r) (l r) : EReal)) := by
  rw [result_entry, out1_apply, ← lossWeighted_equiv rowOf]
  have hs : ∀ (a : Fin 4) (p : Place), (V3 m ρ c main_call0_v2 : FVec Ideal S4x512x128 .f32) (ix3 a p.1 p.2)
      = rowStat a (fun k => (x (rowOf p) k : EReal)) (word (l (rowOf p))) := fun a p => by
    rw [planes_entry, rowOf_val]
    refine Eq.trans (b := rowStat a (fun k => (m ((c : Thread nD τ).loc main_arg0) : FVec Ideal S65536x1000 .f32) (ix2 (rowOf p) k))
      ((m ((c : Thread nD τ).loc main_arg1) : IVec S65536 32) (ix1 (rowOf p)))) rfl ?_
    rw [hl]
    exact congrArg (fun f => rowStat a f _) (funext (hx (rowOf p)))
  simp only [hs, rowStat_conf, rowStat_unc, rowStat_hit, rowStat_nll]

end Cert.KernelStats
-- ==== Proof.RefLogits.lean ====
/- The two places where the reference takes the greatest logit off a row: each as a value of the row's logits. -/
module

public import proofs.«01_k».proof.Proof.RefRun
public import Idealize.ShloMosaic.Lib.Pointwise
public import Idealize.ShloMosaic.Lib.Tactic.CleanTypes

@[expose] public section

set_option maxRecDepth 16384

noncomputable section

namespace Cert.RefRows

open Idealize.ShloMosaic Cert.ReferenceIdeal Cert.ReferenceIdeal.Gen Cert.ReferenceIdeal.Value

/-- A row's logit less the greatest of the row, as the program writes it. -/
def lowered (A : FVec Ideal S65536x1000 .f32) (r : Fin 65536) (k : Fin 1000) : EReal :=
  A (ix2 r k) - max (Ideal.ofBits .f32 0xFF800000#32)
    (Finset.univ.fold max (Ideal.ofBits .f32 0xFF800000#32) fun c => A (ix2 r c))

/-- The greatest of a row. -/
theorem greatest_apply (A : FVec Ideal S65536x1000 .f32) (r : Fin 65536) :
    (Host.reduce FloatOps.maximumf A (constant S_ .f32 0xFF800000#32) reducesTo_S65536x1000_S65536_d1 h_S_) (ix1 r)
      = Finset.univ.fold max (Ideal.ofBits .f32 0xFF800000#32) fun c => A (ix2 r c) := by
  pointwise

/-- A row less the larger of two numbers. -/
theorem lowered_apply (A : FVec Ideal S65536x1000 .f32) (K : FVec Ideal S_ .f32) (M : FVec Ideal S65536 .f32)
    (r : Fin 65536) (k : Fin 1000) :
    (subf A (broadcastInDim S65536x1000 ![0, 1] bcast_S65536x1_S65536x1000_0_1
        (broadcastInDim S65536x1 ![0] bcast_S65536_S65536x1_0
          (maximumf (broadcastInDim S65536 ![] bcast_S_S65536 K) M)))) (ix2 r k)
      = A (ix2 r k) - max (K ix0) (M (ix1 r)) := by
  pointwise

/-- The exponentials of the lowered logits. -/
theorem v6_lowered (V0 : Valuation τ sig (Elt Ideal)) (r : Fin 65536) (k : Fin 1000) :
    (res_main_v6 V0 : FVec Ideal S65536x1000 .f32) (ix2 r k)
      = Ideal.exp (lowered (V0 (Proc.devRef .tc main_arg0)) r k) := by
  unfold res_main_v6 lowered
  rw [← greatest_apply]
  exact congrArg Ideal.exp (lowered_apply _ _ _ r k)

/-- The lowered logits of the cross-entropy. -/
theorem c6_lowered (V0 : Valuation τ sig (Elt Ideal)) (r : Fin 65536) (k : Fin 1000) :
    (res_main_call6_v5 V0 : FVec Ideal S65536x1000 .f32) (ix2 r k)
      = lowered (V0 (Proc.devRef .tc main_arg0)) r k := by
  unfold res_main_call6_v5 lowered
  rw [← greatest_apply]
  exact lowered_apply _ _ _ r k

end Cert.RefRows
-- ==== Proof.RefArgmax.lean ====
/- The reference's arg-max over a row: of the pairs (probability, class number) it folds over, the one it ends with has
   the greatest probability and, among those, the least class. -/
module

public import proofs.«01_k».proof.Proof.RefRun
public import proofs.«01_k».proof.Proof.RowMath
public import proofs.«01_k».proof.Proof.LossMath
public import Idealize.ShloMosaic.Lib.Pointwise
public import Idealize.ShloMosaic.Lib.Tactic.CleanTypes

@[expose] public section

set_option maxRecDepth 16384

noncomputable section

namespace Cert.RefArgmax

open Idealize.ShloMosaic Cert.ReferenceIdeal Cert.ReferenceIdeal.Gen Cert.ReferenceIdeal.Value
open Cert.RowMath

/-- A probability with its class number. -/
abbrev Entry : Type := Ideal .f32 × BitVec 32

/-- The first entry comes before the second: a greater value, or the same one and no greater number. -/
def Before (p q : Entry) : Prop :=
  (q.1 : EReal) < p.1 ∨ ((p.1 : EReal) = q.1 ∧ p.2.toInt ≤ q.2.toInt)

theorem Before.refl (p : Entry) : Before p p := Or.inr ⟨rfl, le_rfl⟩

theorem Before.trans {p q s : Entry} (h : Before p q) (h' : Before q s) : Before p s := by
  rcases h with h | ⟨h, k⟩ <;> rcases h' with h' | ⟨h', k'⟩
  · exact Or.inl (h'.trans h)
  · exact Or.inl (h' ▸ h)
  · exact Or.inl (by rw [h]; exact h')
  · exact Or.inr ⟨h.trans h', k.trans k'⟩

/-- The arg-max's function gives one of its two entries, and that one comes before both. -/
theorem pick (a b : Entry) :
    (reducer_argmax_f32_i32 a b = a ∨ reducer_argmax_f32_i32 a b = b)
      ∧ Before (reducer_argmax_f32_i32 a b) a ∧ Before (reducer_argmax_f32_i32 a b) b := by
  obtain ⟨a1, a2⟩ := a
  obtain ⟨b1, b2⟩ := b
  have hu : FloatOps.cmpf (F := Ideal) .une a1 a1 = 0#1 := by simp [Ideal.cmpf_def, Ideal.cmp]
  rcases lt_trichotomy (a1 : EReal) b1 with h | h | h
  · have hg : FloatOps.cmpf (F := Ideal) .ogt a1 b1 = 0#1 := by
      have : ¬ (b1 : EReal) < a1 := not_lt.mpr h.le
      simp [Ideal.cmpf_def, Ideal.cmp, this]
    have he : FloatOps.cmpf (F := Ideal) .oeq a1 b1 = 0#1 := by simp [Ideal.cmpf_def, Ideal.cmp, h.ne]
    have e : reducer_argmax_f32_i32 (F := Ideal) (a1, a2) (b1, b2) = (b1, b2) := by
      simp [reducer_argmax_f32_i32, hu, hg, he, IntOp.ori, IntOp.andi, Scalar.select]
    rw [e]
    exact ⟨Or.inr rfl, Or.inl h, Before.refl _⟩
  · subst h
    have hg : FloatOps.cmpf (F := Ideal) .ogt a1 a1 = 0#1 := by simp [Ideal.cmpf_def, Ideal.cmp]
    have he : FloatOps.cmpf (F := Ideal) .oeq a1 a1 = 1#1 := by simp [Ideal.cmpf_def, Ideal.cmp]
    by_cases hs : a2.toInt < b2.toInt
    · have hc : IntOp.cmpi .slt a2 b2 = 1#1 := by simp [IntOp.cmpi, BitVec.slt, hs]
      have e : reducer_argmax_f32_i32 (F := Ideal) (a1, a2) (a1, b2) = (a1, a2) := by
        simp [reducer_argmax_f32_i32, hu, hg, he, hc, IntOp.ori, IntOp.andi, Scalar.select]
      rw [e]
      exact ⟨Or.inl rfl, Before.refl _, Or.inr ⟨rfl, hs.le⟩⟩
    · have hc : IntOp.cmpi .slt a2 b2 = 0#1 := by simp [IntOp.cmpi, BitVec.slt, hs]
      have e : reducer_argmax_f32_i32 (F := Ideal) (a1, a2) (a1, b2) = (a1, b2) := by
        simp [reducer_argmax_f32_i32, hu, hg, he, hc, IntOp.ori, IntOp.andi, Scalar.select]
      rw [e]
      exact ⟨Or.inr rfl, Or.inr ⟨rfl, not_lt.mp hs⟩, Before.refl _⟩
  · have hg : FloatOps.cmpf (F := Ideal) .ogt a1 b1 = 1#1 := by simp [Ideal.cmpf_def, Ideal.cmp, h]
    have e : reducer_argmax_f32_i32 (F := Ideal) (a1, a2) (b1, b2) = (a1, a2) := by
      have ho : ∀ v : BitVec 1, 1#1 ||| v = 1#1 := by decide
      simp only [reducer_argmax_f32_i32, hu, hg, IntOp.ori, Scalar.select, ho]
      rfl
    rw [e]
    exact ⟨Or.inl rfl, Before.refl _, Or.inl h⟩

/-- A left fold of the arg-max's function ends with the initial entry or one of the list's, and that one comes before
    them all. -/
theorem foldl_pick (L : List Entry) (a : Entry) :
    (L.foldl reducer_argmax_f32_i32 a = a ∨ L.foldl reducer_argmax_f32_i32 a ∈ L)
      ∧ Before (L.foldl reducer_argmax_f32_i32 a) a ∧ ∀ p ∈ L, Before (L.foldl reducer_argmax_f32_i32 a) p := by
  induction L generalizing a with
  | nil => exact ⟨Or.inl rfl, Before.refl _, by simp⟩
  | cons b L ih =>
    obtain ⟨h1, h2, h3⟩ := ih (reducer_argmax_f32_i32 a b)
    obtain ⟨k1, k2, k3⟩ := pick a b
    simp only [List.foldl_cons]
    refine ⟨?_, h2.trans k2, fun p hp => ?_⟩
    · rcases h1 with h1 | h1
      · rw [h1]
        rcases k1 with k1 | k1
        · exact Or.inl k1
        · rw [k1]; exact Or.inr List.mem_cons_self
      · exact Or.inr (List.mem_cons_of_mem _ h1)
    · rcases List.mem_cons.mp hp with rfl | hp
      · exact h2.trans k3
      · exact h3 p hp

/-- The entries the arg-max folds over at a row are the row's. -/
theorem mem_row (A : FVec Ideal S65536x1000 .f32) (B : IVec S65536x1000 32) (r : Fin 65536) (p : Entry) :
    p ∈ Host.argReduceFiber A B reducesTo_S65536x1000_S65536_d1 (ix1 r) ↔ ∃ c, p = (A (ix2 r c), B (ix2 r c)) := by
  have hd : ∀ i : S65536x1000.Idx, reducesTo_S65536x1000_S65536_d1.drop i = ix1 r ↔ i 0 = r := by
    intro i
    have hv := Shape.ReducesTo.drop_apply_val_of_eq reducesTo_S65536x1000_S65536_d1 i 0 0
    constructor
    · intro h
      rw [h] at hv
      exact Fin.ext hv.symm
    · intro h
      funext b
      obtain rfl : b = 0 := Subsingleton.elim (α := Fin 1) b 0
      exact Fin.ext (hv.trans (congrArg Fin.val h))
  simp only [Host.argReduceFiber, List.mem_map, List.mem_filter, List.mem_finRange, true_and, decide_eq_true_eq, hd]
  constructor
  · rintro ⟨n, hn, rfl⟩
    refine ⟨S65536x1000.rowMajor.symm n 1, ?_⟩
    have e : S65536x1000.rowMajor.symm n = ix2 r (S65536x1000.rowMajor.symm n 1) := by
      rw [← hn]; exact eq_ix2 _
    exact congrArg (fun i => (A i, B i)) e
  · rintro ⟨c, rfl⟩
    exact ⟨S65536x1000.rowMajor (ix2 r c), by rw [Equiv.symm_apply_apply]; rfl, by rw [Equiv.symm_apply_apply]⟩

/-- A class number as a signed word is the number. -/
theorem word_toInt (c : Fin 1000) : (word c).toInt = ((c : ℕ) : ℤ) := by
  have h : ∀ k : Fin 1000, (BitVec.ofNat 32 (k : ℕ)).toInt = ((k : ℕ) : ℤ) := by decide +kernel
  exact h c

/-- The class numbers along a row. -/
theorem iota_apply (r : Fin 65536) (c : Fin 1000) : (iotaInDim S65536x1000 32 1) (ix2 r c) = word c := rfl

/-- The arg-max of a row's probabilities is a label's class exactly when the label holds the greatest logit, when no
    class before the label shares that logit with it. -/
theorem argmax_eq_iff (x : Row) (l : Fin 1000) (r : Fin 65536) (A : FVec Ideal S65536x1000 .f32)
    (hA : ∀ c, A (ix2 r c) = (prob x c : EReal)) (first : x l = top x → ∀ k, k < l → x k ≠ top x) :
    word l = (Host.argReduce reducer_argmax_f32_i32 A (iotaInDim S65536x1000 32 1) (constant S_ .f32 0xFF800000#32)
        (constantI S_ 32 0#32) reducesTo_S65536x1000_S65536_d1 h_S_ (ix1 r)).2 ↔ x l = top x := by
  rw [Ideal.argReduce_eq_reduce2, Host.reduce2_eq_foldl_fiber]
  obtain ⟨h1, -, h3⟩ := foldl_pick
    (Host.argReduceFiber A (iotaInDim S65536x1000 32 1) reducesTo_S65536x1000_S65536_d1 (ix1 r))
    ((constant (F := Ideal) S_ .f32 0xFF800000#32) (Shape.Idx.first h_S_), (constantI S_ 32 0#32) (Shape.Idx.first h_S_))
  generalize List.foldl _ _ _ = p at h1 h3 ⊢
  have hB : ∀ c, Before p ((prob x c : EReal), word c) := fun c => by
    have := h3 _ ((mem_row A _ r _).mpr ⟨c, rfl⟩)
    rwa [hA, iota_apply] at this
  obtain ⟨c, hc⟩ : ∃ c, p = ((prob x c : EReal), word c) := by
    rcases h1 with h1 | h1
    · exfalso
      have hb : p.1 = (⊥ : EReal) := by rw [h1]; exact Cert.LossMath.neg_inf_val
      rcases hB 0 with h | ⟨h, -⟩
      · rw [hb] at h; exact not_lt_bot h
      · rw [hb] at h; exact EReal.coe_ne_bot _ h.symm
    · obtain ⟨c, hc⟩ := (mem_row A _ r p).mp h1
      rw [hA, iota_apply] at hc
      exact ⟨c, hc⟩
  subst hc
  have hle : ∀ k, prob x k ≤ prob x c := fun k => by
    rcases hB k with h | ⟨h, -⟩
    · exact (EReal.coe_lt_coe_iff.mp h).le
    · exact (EReal.coe_eq_coe_iff.mp h).ge
  have hconf : prob x c = conf x := by
    obtain ⟨k, hk⟩ := exists_conf x
    exact le_antisymm (prob_le_conf x c) (hk ▸ hle k)
  constructor
  · intro h
    rw [word_inj h]
    exact (prob_eq_conf_iff x c).mp hconf
  · intro h
    have hl : prob x l = prob x c := ((prob_eq_conf_iff x l).mpr h).trans hconf.symm
    have hcl : c ≤ l := by
      rcases hB l with k | ⟨-, k⟩
      · exact absurd (EReal.coe_lt_coe_iff.mp k) (by rw [hl]; exact lt_irrefl _)
      · simp only [word_toInt] at k
        exact Fin.le_def.mpr (by exact_mod_cast k)
    rcases hcl.lt_or_eq with k | rfl
    · exact absurd ((prob_eq_conf_iff x c).mp hconf) (first h c k)
    · rfl

/-- The comparison of the labels with the arg-max's classes, laid out as one row. -/
theorem right_apply (L M : IVec S65536 32) (r : Fin 65536) :
    (broadcastInDim S1x65536 ![1] bcast_S65536_S1x65536_1 (cmpi .eq L M) : IVec S1x65536 1) (ix2 0 r)
      = IntOp.cmpi .eq (L (ix1 r)) (M (ix1 r)) := by
  pointwise

end Cert.RefArgmax
-- ==== Proof.RefRows.lean ====
/- What the reference computes for each row: its probabilities, their greatest, its entropy, whether the first class
   of greatest probability is the label, and its 21 thresholds. -/
module

public import proofs.«01_k».proof.Proof.RefRun
public import proofs.«01_k».proof.Proof.RowMath
public import proofs.«01_k».proof.Proof.LossMath
public import proofs.«01_k».proof.Proof.RefLogits
public import proofs.«01_k».proof.Proof.RefArgmax
public import Idealize.ShloMosaic.Lib.Pointwise
public import Idealize.ShloMosaic.Lib.Tactic.CleanTypes

@[expose] public section

set_option maxRecDepth 16384

noncomputable section

namespace Cert.RefRows

open Idealize.ShloMosaic Cert.ReferenceIdeal Cert.ReferenceIdeal.Gen Cert.ReferenceIdeal.Value
open Cert.RowMath Cert.LossMath Cert.RefArgmax

/-- The rows of a valuation that the statement is about: real logits `x`, labels `l` that name classes, and no class
    before the label that shares the greatest logit with it. -/
structure Rows (V0 : Valuation τ sig (Elt Ideal)) (x : Fin 65536 → Row) (l : Fin 65536 → Fin 1000) : Prop where
  logits : ∀ r k, (V0 (Proc.devRef .tc main_arg0) : FVec Ideal S65536x1000 .f32) (ix2 r k) = (x r k : EReal)
  labels : ∀ r, (V0 (Proc.devRef .tc main_arg1) : IVec S65536 32) (ix1 r) = word (l r)
  first : ∀ r, x r (l r) = top (x r) → ∀ k, k < l r → x r k ≠ top (x r)

variable {V0 : Valuation τ sig (Elt Ideal)} {x : Fin 65536 → Row} {l : Fin 65536 → Fin 1000}

/-- The exponentials of the logits less the greatest. -/
theorem v6_apply (H : Rows V0 x l) (r : Fin 65536) (k : Fin 1000) :
    (res_main_v6 V0 : FVec Ideal S65536x1000 .f32) (ix2 r k) = Ideal.exp ((x r k : EReal) - (top (x r) : EReal)) := by
  rw [v6_lowered]
  unfold lowered
  simp only [H.logits, neg_inf_val, fold_max_coe]
  rw [max_eq_right bot_le]

/-- The probabilities. -/
theorem v10_apply (H : Rows V0 x l) (r : Fin 65536) (k : Fin 1000) :
    (res_main_v10 V0 : FVec Ideal S65536x1000 .f32) (ix2 r k) = (prob (x r) k : EReal) := by
  unfold res_main_v10; clean_types
  pointwise
  simp only [v6_apply H]
  exact prob_softmax (x r) k

/-- The greatest probability. -/
theorem v11_apply (H : Rows V0 x l) (r : Fin 65536) :
    (res_main_v11 V0 : FVec Ideal S65536 .f32) (ix1 r) = (conf (x r) : EReal) := by
  unfold res_main_v11; clean_types
  pointwise
  simp only [v10_apply H, neg_inf_val]
  exact fold_max_prob (x r)

/-- The entropy. -/
theorem v16_apply (H : Rows V0 x l) (r : Fin 65536) :
    (res_main_v16 V0 : FVec Ideal S65536 .f32) (ix1 r) = (unc (x r) : EReal) := by
  have hA := v10_apply H r
  unfold res_main_v16; clean_types
  generalize res_main_v10 V0 = A at hA ⊢
  pointwise
  simp only [hA]
  exact unc_softmax (x r)

/-- The arg-max's class is the label exactly when the label holds the greatest logit. -/
theorem v32_apply (H : Rows V0 x l) (r : Fin 65536) :
    (res_main_v32 V0 : IVec S1x65536 1) (ix2 0 r) = hitBit (x r) (l r) := by
  classical
  unfold res_main_v32 hitBit
  refine (right_apply _ _ r).trans (cmpi_eq_bit _ _ _ ?_)
  rw [H.labels r]
  exact argmax_eq_iff (x r) (l r) r (res_main_v10 V0) (v10_apply H r) (H.first r)

/-- The float of a small word. -/
theorem sitofp_word (i : Fin 21) : FloatOps.sitofp (F := Ideal) .f32 (BitVec.ofNat 32 (i : ℕ)) = (((i : ℕ) : ℝ) : EReal) := by
  have h : ∀ k : Fin 21, (BitVec.ofNat 32 (k : ℕ)).toInt = (k : ℕ) := by decide +kernel
  show (((BitVec.ofNat 32 (i : ℕ)).toInt : ℝ) : EReal) = _
  rw [h]
  norm_cast

/-- The thresholds' multiples, twentieths. -/
theorem v19_apply (i : Fin 21) :
    (res_main_v19 V0 : FVec Ideal S21 .f32) (ix1 i) = ((((i : ℕ) : ℝ) / 20 : ℝ) : EReal) := by
  unfold res_main_v19 res_main_call1_v6 res_main_call1_v0 res_main_call1_v1; clean_types
  pointwise
  have h0 : (constant (F := Ideal) S_ .f32 0x00000000#32) ix0 = (0 : EReal) := Ideal.ofBits_zero_f32
  have h1 : (constant (F := Ideal) S_ .f32 0x3F800000#32) ix0 = (1 : EReal) := Ideal.ofBits_one_f32
  simp only [id_eq, h0, h1, twenty_val]
  by_cases h : (i : ℕ) < 20
  · rw [dif_pos h, zero_mul, one_mul, zero_add]
    rw [sitofp_word i, div_coe_coe _ (by norm_num)]
  · rw [dif_neg h]
    have : (i : ℕ) = 20 := by omega
    rw [this, ← EReal.coe_one]
    congr 1; norm_num

/-- The label's word, left as it is by the wrap of negative labels. -/
theorem c7_apply (H : Rows V0 x l) (r : Fin 65536) :
    (res_main_call7_v5 V0 : IVec S65536x1x1 32) (ix3 r 0 0) = word (l r) := by
  unfold res_main_call7_v5 res_main_v85; clean_types
  pointwise
  simp only [H.labels]
  rw [word_not_neg]
  rfl

/-- The logits less the greatest. -/
theorem c6_apply (H : Rows V0 x l) (r : Fin 65536) (k : Fin 1000) :
    (res_main_call6_v5 V0 : FVec Ideal S65536x1000 .f32) (ix2 r k) = (x r k : EReal) - (top (x r) : EReal) := by
  rw [c6_lowered]
  unfold lowered
  simp only [H.logits, neg_inf_val, fold_max_coe]
  rw [max_eq_right bot_le]

end Cert.RefRows
-- ==== Proof.RefAvu.lean ====
/- What the reference computes for each threshold: which rows are certain there, and accuracy versus uncertainty. -/
module

public import proofs.«01_k».proof.Proof.RefRows

@[expose] public section

set_option maxRecDepth 16384

noncomputable section

namespace Cert.RefRows

open Idealize.ShloMosaic Cert.ReferenceIdeal Cert.ReferenceIdeal.Gen Cert.ReferenceIdeal.Value
open Cert.RowMath Cert.LossMath

variable {V0 : Valuation τ sig (Elt Ideal)} {x : Fin 65536 → Row} {l : Fin 65536 → Fin 1000}

theorem least_apply (A : FVec Ideal S65536 .f32) :
    (Host.reduce FloatOps.minimumf A (constant S_ .f32 0x7F800000#32) reducesTo_S65536_S_d0 h_S_) ix0
      = least fun r => A (ix1 r) := by
  unfold least
  pointwise

theorem greatest_rows_apply (A : FVec Ideal S65536 .f32) :
    (Host.reduce FloatOps.maximumf A (constant S_ .f32 0xFF800000#32) reducesTo_S65536_S_d0 h_S_) ix0
      = greatest fun r => A (ix1 r) := by
  unfold greatest
  pointwise

/-- The comparison of every row with every threshold. -/
theorem certain_apply (U : FVec Ideal S65536 .f32) (m M : FVec Ideal S_ .f32) (t : FVec Ideal S21 .f32) (i : Fin 21)
    (r : Fin 65536) :
    (cmpf .ole (broadcastInDim S21x65536 ![0, 1] bcast_S1x65536_S21x65536_0_1 (broadcastInDim S1x65536 ![1] bcast_S65536_S1x65536_1 U)) (broadcastInDim S21x65536 ![0, 1] bcast_S21x1_S21x65536_0_1 (broadcastInDim S21x1 ![0] bcast_S21_S21x1_0 (addf (broadcastInDim S21 ![] bcast_S_S21 m) (mulf t (broadcastInDim S21 ![] bcast_S_S21 (subf M m))))))) (ix2 i r)
      = BitVec.ofBool (decide (U (ix1 r) ≤ m ix0 + t (ix1 i) * (M ix0 - m ix0))) := by
  pointwise

/-- The least uncertainty. -/
theorem v17_apply (H : Rows V0 x l) :
    (res_main_v17 V0 : FVec Ideal S_ .f32) ix0 = least fun r => (unc (x r) : EReal) := by
  unfold res_main_v17; clean_types
  refine (least_apply _).trans ?_
  exact congrArg least (funext fun r => v16_apply H r)

/-- Whether a row is certain at a threshold. -/
theorem v31_apply (H : Rows V0 x l) (i : Fin 21) (r : Fin 65536) :
    (res_main_v31 V0 : IVec S21x65536 1) (ix2 i r)
      = certain (fun r => (unc (x r) : EReal)) (threshold (fun r => (unc (x r) : EReal)) i) r := by
  have hM : (Host.reduce FloatOps.maximumf (res_main_v16 V0) (constant S_ .f32 0xFF800000#32) reducesTo_S65536_S_d0 h_S_)
      ix0 = greatest fun r => (unc (x r) : EReal) :=
    (greatest_rows_apply _).trans (congrArg greatest (funext fun r => v16_apply H r))
  unfold res_main_v31 certain threshold
  refine (certain_apply _ _ _ _ i r).trans ?_
  rw [hM, v16_apply H, v17_apply H, v19_apply]

/-- A sum over the rows that a bit keeps. -/
theorem kept_apply (b : IVec S21x65536 1) (w : FVec Ideal S65536 .f32) (i : Fin 21) :
    (Host.reduceAdd (select b (broadcastInDim S21x65536 ![1] bcast_S65536_S21x65536_1 w) (broadcastInDim S21x65536 ![] bcast_S_S21x65536 (constant S_ .f32 0x00000000#32))) (constant S_ .f32 0x00000000#32) reducesTo_S21x65536_S21_d1 h_S_ : FVec Ideal S21 .f32) (ix1 i)
      = ∑ r, Scalar.select (b (ix2 i r)) (w (ix1 r)) 0 := by
  pointwise

/-- The four weights, and the four pairs of bits. -/
theorem one_apply : (constant S_ .f32 0x3F800000#32 : FVec Ideal S_ .f32) ix0 = (1 : EReal) := Ideal.ofBits_one_f32

theorem right_sure (K : FVec Ideal S_ .f32) (C U : FVec Ideal S65536 .f32) (r : Fin 65536) :
    (mulf C (subf (broadcastInDim S65536 ![] bcast_S_S65536 K) (Host.tanh U))) (ix1 r)
      = C (ix1 r) * (K ix0 - Ideal.tanh (U (ix1 r))) := by
  pointwise

theorem right_unsure (C U : FVec Ideal S65536 .f32) (r : Fin 65536) :
    (mulf C (Host.tanh U)) (ix1 r) = C (ix1 r) * Ideal.tanh (U (ix1 r)) := by
  pointwise

theorem wrong_sure (K : FVec Ideal S_ .f32) (C U : FVec Ideal S65536 .f32) (r : Fin 65536) :
    (mulf (subf (broadcastInDim S65536 ![] bcast_S_S65536 K) C) (subf (broadcastInDim S65536 ![] bcast_S_S65536 K) (Host.tanh U))) (ix1 r)
      = (K ix0 - C (ix1 r)) * (K ix0 - Ideal.tanh (U (ix1 r))) := by
  pointwise

theorem wrong_unsure (K : FVec Ideal S_ .f32) (C U : FVec Ideal S65536 .f32) (r : Fin 65536) :
    (mulf (subf (broadcastInDim S65536 ![] bcast_S_S65536 K) C) (Host.tanh U)) (ix1 r)
      = (K ix0 - C (ix1 r)) * Ideal.tanh (U (ix1 r)) := by
  pointwise

theorem bit_right (B : IVec S1x65536 1) (D : IVec S21x65536 1) (i : Fin 21) (r : Fin 65536) :
    (andi (broadcastInDim S21x65536 ![0, 1] bcast_S1x65536_S21x65536_0_1 B) D) (ix2 i r)
      = IntOp.andi (B (ix2 0 r)) (D (ix2 i r)) := by
  pointwise

theorem noti_apply {s : Shape} (D : IVec s 1) (j : s.Idx) : noti D j = ~~~(D j) := rfl

/-- The accurate and certain rows' sum. -/
theorem v39_apply (H : Rows V0 x l) (i : Fin 21) :
    (res_main_v39 V0 : FVec Ideal S21 .f32) (ix1 i)
      = accCert (fun r => hitBit (x r) (l r)) (fun r => (conf (x r) : EReal)) (fun r => (unc (x r) : EReal))
          (threshold (fun r => (unc (x r) : EReal)) i) := by
  have h32 := v32_apply H
  have h31 := v31_apply H
  have h11 := v11_apply H
  have h16 := v16_apply H
  unfold res_main_v39 res_main_v26 accCert
  refine (kept_apply _ _ i).trans (Finset.sum_congr rfl fun r _ => ?_)
  rw [bit_right, right_sure, one_apply, h32 r, h31 i r, h11 r, h16 r]

/-- The inaccurate and uncertain rows' sum. -/
theorem v64_apply (H : Rows V0 x l) (i : Fin 21) :
    (res_main_v64 V0 : FVec Ideal S21 .f32) (ix1 i)
      = inaUnc (fun r => hitBit (x r) (l r)) (fun r => (conf (x r) : EReal)) (fun r => (unc (x r) : EReal))
          (threshold (fun r => (unc (x r) : EReal)) i) := by
  have h32 := v32_apply H
  have h31 := v31_apply H
  have h11 := v11_apply H
  have h16 := v16_apply H
  unfold res_main_v64 res_main_v26 inaUnc
  refine (kept_apply _ _ i).trans (Finset.sum_congr rfl fun r _ => ?_)
  rw [bit_right, wrong_unsure, one_apply, noti_apply, noti_apply, h32 r, h31 i r, h11 r, h16 r]

/-- The quotient of the four sums. -/
theorem quotient_apply (P X Y Q : FVec Ideal S21 .f32) (i : Fin 21) :
    (Host.divf (addf P Q) (addf (addf (addf (addf P X) Y) Q) (broadcastInDim S21 ![] bcast_S_S21 (constant S_ .f32 0x2B8CBCCC#32)))) (ix1 i)
      = Ideal.div (P (ix1 i) + Q (ix1 i))
          (P (ix1 i) + X (ix1 i) + Y (ix1 i) + Q (ix1 i) + Ideal.ofBits .f32 0x2B8CBCCC#32) := by
  pointwise

/-- Accuracy versus uncertainty at a threshold. -/
theorem v71_apply (H : Rows V0 x l) (i : Fin 21) :
    (res_main_v71 V0 : FVec Ideal S21 .f32) (ix1 i)
      = avu (fun r => hitBit (x r) (l r)) (fun r => (conf (x r) : EReal)) (fun r => (unc (x r) : EReal))
          (threshold (fun r => (unc (x r) : EReal)) i) := by
  have h32 := v32_apply H
  have h31 := v31_apply H
  have h11 := v11_apply H
  have h16 := v16_apply H
  unfold res_main_v71 res_main_v26 avu
  refine (quotient_apply _ _ _ _ i).trans ?_
  rw [v39_apply H i, v64_apply H i]
  refine congrArg₂ Ideal.div rfl (congrArg₂ (· + ·) (congrArg₂ (· + ·) (congrArg₂ (· + ·) (congrArg₂ (· + ·) rfl ?_) ?_) rfl) rfl)
  · refine (kept_apply _ _ i).trans (Finset.sum_congr rfl fun r _ => ?_)
    rw [bit_right, right_unsure, noti_apply, h32 r, h31 i r, h11 r, h16 r]
  · refine (kept_apply _ _ i).trans (Finset.sum_congr rfl fun r _ => ?_)
    rw [bit_right, wrong_sure, one_apply, noti_apply, h32 r, h31 i r, h11 r, h16 r]

end Cert.RefRows
-- ==== Proof.RefLoss.lean ====
/- What the reference returns: the loss by the trapezoid rule over its 21 thresholds, plus the mean cross-entropy read
   by each row's label. -/
module

public import proofs.«01_k».proof.Proof.RefAvu
public import Idealize.ShloMosaic.Lib.ReduceAll
public import Idealize.ShloMosaic.Lib.WordCmp

@[expose] public section

set_option maxRecDepth 16384

noncomputable section

namespace Cert.RefRows

open Idealize.ShloMosaic Cert.ReferenceIdeal Cert.ReferenceIdeal.Gen Cert.ReferenceIdeal.Value
open Cert.RowMath Cert.LossMath

variable {V0 : Valuation τ sig (Elt Ideal)} {x : Fin 65536 → Row} {l : Fin 65536 → Fin 1000}

/-- The read along a row at its label: the row's entry at the index word, read signed and clamped. -/
theorem read_apply (X : FVec Ideal S65536x1000 .f32) (I : IVec S65536x1x1 32) (r : Fin 65536) :
    Host.gather gather_S65536x1000_S65536x1x1_S65536x1_n_1_0_0_1_2_11 X I (ix2 r 0)
      = X (ix2 r ⟨min (I (ix3 r 0 0)).toInt.toNat 999, by omega⟩) := by
  unfold Host.gather
  congr 1
  funext a
  refine Fin.ext ?_
  show gather_S65536x1000_S65536x1x1_S65536x1_n_1_0_0_1_2_11.start (ix2 r 0) I a + gather_S65536x1000_S65536x1x1_S65536x1_n_1_0_0_1_2_11.batchCoord (ix2 r 0) a + gather_S65536x1000_S65536x1x1_S65536x1_n_1_0_0_1_2_11.offCoord (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S65536x1000_S65536x1x1_S65536x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S65536x1000_S65536x1x1_S65536x1_n_1_0_0_1_2_11.startIndexMap from List.mem_singleton.mpr rfl)]
    have hsi : gather_S65536x1000_S65536x1x1_S65536x1_n_1_0_0_1_2_11.siIdx (ix2 r 0)
        ⟨List.idxOf (1 : Fin 2) gather_S65536x1000_S65536x1x1_S65536x1_n_1_0_0_1_2_11.startIndexMap,
          List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    rfl

/-- A class's word, read signed and clamped to the classes, is the class. -/
theorem clamp_word (c : Fin 1000) : (⟨min (word c).toInt.toNat 999, by omega⟩ : Fin 1000) = c := by
  have h : ∀ k : Fin 1000, min (BitVec.ofNat 32 (k : ℕ)).toInt.toNat 999 = (k : ℕ) := by decide +kernel
  exact Fin.ext (h c)

/-- A class's word is between 0 and 999. -/
theorem word_in_range (c : Fin 1000) :
    IntOp.andi (IntOp.cmpi .sge (word c) 0#32) (IntOp.cmpi .sle (word c) 999#32) = 1#1 := by
  have h : ∀ k : Fin 1000, IntOp.andi (IntOp.cmpi .sge (BitVec.ofNat 32 (k : ℕ)) 0#32)
      (IntOp.cmpi .sle (BitVec.ofNat 32 (k : ℕ)) 999#32) = 1#1 := by decide +kernel
  exact h c

/-- The log of a row's sum of exponentials, along the row. -/
theorem logsum_apply (X : FVec Ideal S65536x1000 .f32) (r : Fin 65536) (k : Fin 1000) :
    (subf X (broadcastInDim S65536x1000 ![0, 1] bcast_S65536x1_S65536x1000_0_1 (Host.log (broadcastInDim S65536x1 ![0] bcast_S65536_S65536x1_0 (Host.reduceAdd (Host.exp X) (constant S_ .f32 0x00000000#32) reducesTo_S65536x1000_S65536_d1 h_S_))))) (ix2 r k)
      = X (ix2 r k) - Ideal.log (∑ c, Ideal.exp (X (ix2 r c))) := by
  pointwise

theorem picked_apply (b : IVec S65536x1 1) (g n : FVec Ideal S65536x1 .f32) :
    (Host.reduceAdd (select b g n) (constant S_ .f32 0x00000000#32) reducesTo_S65536x1_S_d0_1 h_S_ : FVec Ideal S_ .f32) ix0
      = ∑ r : Fin 65536, Scalar.select (b (ix2 r 0)) (g (ix2 r 0)) (n (ix2 r 0)) := by
  pointwise
  exact Finset.sum_congr rfl fun r _ => Fintype.sum_unique _

theorem range_apply (I : IVec S65536x1x1 32) (K : IVec S_ 32) (K' : IVec S1 32) (r : Fin 65536) :
    (andi (cmpi .sge I (broadcastInDim S65536x1x1 ![] bcast_S_S65536x1x1 K)) (cmpi .sle I (broadcastInDim S65536x1x1 ![0, 1, 2] bcast_S1x1x1_S65536x1x1_0_1_2 (broadcastInDim S1x1x1 ![2] bcast_S1_S1x1x1_2 K')))) (ix3 r 0 0)
      = IntOp.andi (IntOp.cmpi .sge (I (ix3 r 0 0)) (K ix0)) (IntOp.cmpi .sle (I (ix3 r 0 0)) (K' (ix1 0))) := by
  pointwise

/-- The steps of the trapezoid rule. -/
theorem steps_apply (v w : FVec Ideal S21 .f32) :
    (Host.reduceAdd (mulf (addf (extractStridedSlice S20 ![1] v slices_S21_S20_1) (extractStridedSlice S20 ![0] v slices_S21_S20_0)) (subf (extractStridedSlice S20 ![1] w slices_S21_S20_1) (extractStridedSlice S20 ![0] w slices_S21_S20_0))) (constant S_ .f32 0x00000000#32) reducesTo_S20_S_d0 h_S_ : FVec Ideal S_ .f32) ix0
      = ∑ k : Fin 20, (v (ix1 ⟨(k : ℕ) + 1, by omega⟩) + v (ix1 ⟨(k : ℕ), by omega⟩))
          * (w (ix1 ⟨(k : ℕ) + 1, by omega⟩) - w (ix1 ⟨(k : ℕ), by omega⟩)) := by
  pointwise
  simp only [Nat.add_comm 1]

/-- The last few operations on numbers. -/
theorem last_apply (K1 K2 K3 K4 a b : FVec Ideal S_ .f32) :
    (broadcastInDim S1 ![] bcast_S_S1 (addf (mulf K1 (Host.log (addf (mulf K2 a) K3))) (Host.negf (Host.divf b K4)))) (ix1 0)
      = K1 ix0 * Ideal.log (K2 ix0 * a ix0 + K3 ix0) + -(Ideal.div (b ix0) (K4 ix0)) := by
  pointwise

/-- The labels' log-probabilities, added up. -/
theorem picked_sum (H : Rows V0 x l) :
    (Host.reduceAdd (select (Host.reduce IntOp.andi (andi (cmpi .sge (res_main_call7_v5 V0) (broadcastInDim S65536x1x1 ![] bcast_S_S65536x1x1 (constantI S_ 32 0#32))) (cmpi .sle (res_main_call7_v5 V0) (broadcastInDim S65536x1x1 ![0, 1, 2] bcast_S1x1x1_S65536x1x1_0_1_2 (broadcastInDim S1x1x1 ![2] bcast_S1_S1x1x1_2 (constantI S1 32 999#32))))) (constantI S_ 1 1#1) reducesTo_S65536x1x1_S65536x1_d2 h_S_) (Host.gather gather_S65536x1000_S65536x1x1_S65536x1_n_1_0_0_1_2_11 (subf (res_main_call6_v5 V0) (broadcastInDim S65536x1000 ![0, 1] bcast_S65536x1_S65536x1000_0_1 (Host.log (broadcastInDim S65536x1 ![0] bcast_S65536_S65536x1_0 (Host.reduceAdd (Host.exp (res_main_call6_v5 V0)) (constant S_ .f32 0x00000000#32) reducesTo_S65536x1000_S65536_d1 h_S_))))) (res_main_call7_v5 V0)) (broadcastInDim S65536x1 ![] bcast_S_S65536x1 (constant S_ .f32 0x7FC00000#32))) (constant S_ .f32 0x00000000#32) reducesTo_S65536x1_S_d0_1 h_S_ : FVec Ideal S_ .f32) ix0
      = ∑ r, ((-nll (x r) (l r) : ℝ) : EReal) := by
  refine (picked_apply _ _ _).trans (Finset.sum_congr rfl fun r _ => ?_)
  have hbit : (Host.reduce IntOp.andi (andi (cmpi .sge (res_main_call7_v5 V0) (broadcastInDim S65536x1x1 ![] bcast_S_S65536x1x1 (constantI S_ 32 0#32))) (cmpi .sle (res_main_call7_v5 V0) (broadcastInDim S65536x1x1 ![0, 1, 2] bcast_S1x1x1_S65536x1x1_0_1_2 (broadcastInDim S1x1x1 ![2] bcast_S1_S1x1x1_2 (constantI S1 32 999#32))))) (constantI S_ 1 1#1) reducesTo_S65536x1x1_S65536x1_d2 h_S_) (ix2 r 0) = 1#1 := by
    refine Host.reduce_andi_one _ _ _ _ _ rfl fun i => ?_
    obtain ⟨q, rfl⟩ : ∃ q : Fin 65536, i = ix3 q 0 0 := ⟨i 0, by
      funext a
      match a with
      | ⟨0, _⟩ => rfl
      | ⟨1, _⟩ => exact Subsingleton.elim (α := Fin 1) _ _
      | ⟨2, _⟩ => exact Subsingleton.elim (α := Fin 1) _ _⟩
    refine (range_apply _ _ _ q).trans ?_
    rw [c7_apply H]
    exact word_in_range (l q)
  have hw : ∀ w : BitVec 32, w = word (l r) → (⟨min w.toInt.toNat 999, by omega⟩ : Fin 1000) = l r := fun w h => h ▸ clamp_word (l r)
  rw [hbit, read_apply, hw _ (c7_apply H r), logsum_apply]
  simp only [c6_apply H]
  rw [nll_softmax]
  rfl

/-- The reference's result is the loss by the trapezoid rule. -/
theorem loss_apply (H : Rows V0 x l) :
    (broadcastInDim S1 ![] bcast_S_S1 (addf (mulf (constant S_ .f32 0xC0400000#32) (Host.log (addf (mulf (constant S_ .f32 0x3F000000#32) (Host.reduceAdd (mulf (addf (extractStridedSlice S20 ![1] (res_main_v71 V0) slices_S21_S20_1) (extractStridedSlice S20 ![0] (res_main_v71 V0) slices_S21_S20_0)) (subf (extractStridedSlice S20 ![1] (res_main_v19 V0) slices_S21_S20_1) (extractStridedSlice S20 ![0] (res_main_v19 V0) slices_S21_S20_0))) (constant S_ .f32 0x00000000#32) reducesTo_S20_S_d0 h_S_)) (constant S_ .f32 0x2B8CBCCC#32)))) (Host.negf (Host.divf (Host.reduceAdd (select (Host.reduce IntOp.andi (andi (cmpi .sge (res_main_call7_v5 V0) (broadcastInDim S65536x1x1 ![] bcast_S_S65536x1x1 (constantI S_ 32 0#32))) (cmpi .sle (res_main_call7_v5 V0) (broadcastInDim S65536x1x1 ![0, 1, 2] bcast_S1x1x1_S65536x1x1_0_1_2 (broadcastInDim S1x1x1 ![2] bcast_S1_S1x1x1_2 (constantI S1 32 999#32))))) (constantI S_ 1 1#1) reducesTo_S65536x1x1_S65536x1_d2 h_S_) (Host.gather gather_S65536x1000_S65536x1x1_S65536x1_n_1_0_0_1_2_11 (subf (res_main_call6_v5 V0) (broadcastInDim S65536x1000 ![0, 1] bcast_S65536x1_S65536x1000_0_1 (Host.log (broadcastInDim S65536x1 ![0] bcast_S65536_S65536x1_0 (Host.reduceAdd (Host.exp (res_main_call6_v5 V0)) (constant S_ .f32 0x00000000#32) reducesTo_S65536x1000_S65536_d1 h_S_))))) (res_main_call7_v5 V0)) (broadcastInDim S65536x1 ![] bcast_S_S65536x1 (constant S_ .f32 0x7FC00000#32))) (constant S_ .f32 0x00000000#32) reducesTo_S65536x1_S_d0_1 h_S_) (constant S_ .f32 0x47800000#32)))) : FVec Ideal S1 .f32) (ix1 0)
      = lossTrapezoid (fun r => hitBit (x r) (l r)) (fun r => (conf (x r) : EReal)) (fun r => (unc (x r) : EReal))
          (fun r => ((-nll (x r) (l r) : ℝ) : EReal)) := by
  refine (last_apply _ _ _ _ _ _).trans ?_
  rw [picked_sum H, steps_apply]
  simp only [v71_apply H, v19_apply]
  rfl

end Cert.RefRows
-- ==== Proof.PreRows.lean ====
/- What the precondition says of the arguments: every logit is a real, every label names a class, and no class before
   the label shares the greatest logit with it. -/
module

public import proofs.«01_k».proof.Pre_finite_labelled_untied
public import proofs.«01_k».proof.Proof.RowMath
public import proofs.«01_k».proof.Proof.LossMath
public import Idealize.ShloMosaic.Lib.Pointwise
public import Idealize.ShloMosaic.Lib.ReduceAll
public import Idealize.ShloMosaic.Lib.WordCmp
public import Idealize.ShloMosaic.Lib.Routing.OpsOrder

@[expose] public section

set_option maxRecDepth 16384

noncomputable section

namespace Cert.PreRows

open Idealize.ShloMosaic Cert.Pre_finite_labelled_untied Cert.Pre_finite_labelled_untied.Facts
open Cert.RowMath Cert.LossMath

variable [Cert.Pre_finite_labelled_untied.Facts]

theorem pos_inf_val : Ideal.ofBits .f32 0x7F800000#32 = (⊤ : EReal) := by
  simp [Ideal.ofBits, Ideal.ieee]

theorem between_apply (A : FVec Ideal S65536x1000 .f32) (K K' : FVec Ideal S_ .f32) (r : Fin 65536) (k : Fin 1000) :
    (andi (cmpf .ogt A (broadcastInDim S65536x1000 ![] bcast_S_S65536x1000 K))
        (cmpf .olt A (broadcastInDim S65536x1000 ![] bcast_S_S65536x1000 K'))) (ix2 r k)
      = IntOp.andi (BitVec.ofBool (decide (K ix0 < A (ix2 r k)))) (BitVec.ofBool (decide (A (ix2 r k) < K' ix0))) := by
  pointwise

theorem range_apply (L : IVec S65536 32) (K K' : IVec S_ 32) (r : Fin 65536) :
    (andi (cmpi .sge L (broadcastInDim S65536 ![] bcast_S_S65536 K)) (cmpi .slt L (broadcastInDim S65536 ![] bcast_S_S65536 K'))) (ix1 r)
      = IntOp.andi (IntOp.cmpi .sge (L (ix1 r)) (K ix0)) (IntOp.cmpi .slt (L (ix1 r)) (K' ix0)) := by
  pointwise

theorem greatest_apply (A : FVec Ideal S65536x1000 .f32) (r : Fin 65536) :
    (Host.reduce FloatOps.maximumf A (constant S_ .f32 0xFF800000#32) reducesTo_S65536x1000_S65536_d1 h_S_) (ix1 r)
      = Finset.univ.fold max (Ideal.ofBits .f32 0xFF800000#32) fun c => A (ix2 r c) := by
  pointwise

theorem at_apply (A : FVec Ideal S65536x1000 .f32) (M : FVec Ideal S65536 .f32) (r : Fin 65536) (k : Fin 1000) :
    (cmpf .oeq A (broadcastInDim S65536x1000 ![0, 1] bcast_S65536x1_S65536x1000_0_1 (broadcastInDim S65536x1 ![0] bcast_S65536_S65536x1_0 M))) (ix2 r k)
      = BitVec.ofBool (decide (A (ix2 r k) = M (ix1 r))) := by
  pointwise

theorem lane_apply (r : Fin 65536) (k : Fin 1000) : iotaInDim S65536x1000 32 1 (ix2 r k) = BitVec.ofNat 32 (k : ℕ) := by
  pointwise

theorem label_apply (L : IVec S65536 32) (r : Fin 65536) (k : Fin 1000) :
    (broadcastInDim S65536x1000 ![0, 1] bcast_S65536x1_S65536x1000_0_1 (broadcastInDim S65536x1 ![0] bcast_S65536_S65536x1_0 L)) (ix2 r k)
      = L (ix1 r) := by
  pointwise

theorem any_apply (B : IVec S65536x1000 1) (r : Fin 65536) :
    (Host.reduce IntOp.ori B (constantI S_ 1 0#1) reducesTo_S65536x1000_S65536_d1 h_S_) (ix1 r)
      = Finset.univ.fold IntOp.ori 0#1 fun c => B (ix2 r c) := by
  pointwise

/-- A row of bits has one set exactly when some bit of it is set. -/
theorem any_of (B : IVec S65536x1000 1) (r : Fin 65536) (k : Fin 1000) (h : B (ix2 r k) = 1#1) :
    (Host.reduce IntOp.ori B (constantI S_ 1 0#1) reducesTo_S65536x1000_S65536_d1 h_S_) (ix1 r) = 1#1 := by
  rw [any_apply]
  exact (Routing.fold_ori _ _).mpr ⟨k, Finset.mem_univ _, h⟩

/-- The rows the precondition admits. -/
theorem decode (A : FVec Ideal S65536x1000 .f32) (L M : IVec S65536 32) (N : IVec S_ 32)
    (h : fn (F := Ideal) A L M N = fun _ => 1#1) :
    ∃ (x : Fin 65536 → Row) (l : Fin 65536 → Fin 1000), (∀ r k, A (ix2 r k) = (x r k : EReal))
      ∧ (∀ r, L (ix1 r) = word (l r)) ∧ ∀ r, x r (l r) = top (x r) → ∀ k, k < l r → x r k ≠ top (x r) := by
  have h0 := congrFun h ix0
  unfold fn fn_part1 at h0
  obtain ⟨ha, hb⟩ := IntOp.andi_eq_one.1 h0
  have hfin : ∀ r k, A (ix2 r k) = ((A (ix2 r k)).toReal : EReal) := fun r k => by
    have h1 := (between_apply A _ _ r k).symm.trans (Host.reduce_andi_all _ _ _ _ _ ha (ix2 r k))
    obtain ⟨hl, hu⟩ := IntOp.andi_eq_one.1 h1
    rw [WordCmp.ofBool_decide_eq_one_iff] at hl hu
    have hl' : (⊥ : EReal) < A (ix2 r k) := neg_inf_val ▸ hl
    have hu' : A (ix2 r k) < (⊤ : EReal) := pos_inf_val ▸ hu
    exact (EReal.coe_toReal hu'.ne hl'.ne').symm
  have hrow := fun r => IntOp.andi_eq_one.1 (Host.reduce_andi_all _ _ _ _ _ hb (ix1 r))
  have hlab : ∀ r, ∃ l : Fin 1000, L (ix1 r) = word l := fun r => by
    have h1 := (range_apply L _ _ r).symm.trans (hrow r).1
    have h2 : IntOp.andi (IntOp.cmpi .sge (L (ix1 r)) 0#32) (IntOp.cmpi .slt (L (ix1 r)) (BitVec.ofNat 32 1000)) = 1#1 := h1
    rw [WordCmp.andi_sge_zero_slt_ofNat (by norm_num), WordCmp.ofBool_decide_eq_one_iff] at h2
    exact ⟨⟨(L (ix1 r)).toNat, h2⟩, BitVec.eq_of_toNat_eq (by simp [word])⟩
  choose l hl using hlab
  refine ⟨fun r k => (A (ix2 r k)).toReal, l, hfin, hl, fun r ht k hk he => ?_⟩
  have hM : (Host.reduce FloatOps.maximumf A (constant S_ .f32 0xFF800000#32) reducesTo_S65536x1000_S65536_d1 h_S_) (ix1 r)
      = (top (fun k => (A (ix2 r k)).toReal) : EReal) := by
    rw [greatest_apply, neg_inf_val, ← fold_max_coe]
    exact congrArg (Finset.univ.fold max ⊥) (funext fun c => hfin r c)
  have hat : ∀ c : Fin 1000, (A (ix2 r c)).toReal = top (fun k => (A (ix2 r k)).toReal) →
      (cmpf .oeq A (broadcastInDim S65536x1000 ![0, 1] bcast_S65536x1_S65536x1000_0_1 (broadcastInDim S65536x1 ![0] bcast_S65536_S65536x1_0
        (Host.reduce FloatOps.maximumf A (constant S_ .f32 0xFF800000#32) reducesTo_S65536x1000_S65536_d1 h_S_)))) (ix2 r c) = 1#1 :=
    fun c hc => by
      rw [at_apply, hM, hfin r c, hc, decide_eq_true rfl]
      rfl
  have hn : ∀ a b : BitVec 1, ~~~(IntOp.andi a b) = 1#1 → a = 1#1 → b = 1#1 → False := by decide
  refine hn _ _ (hrow r).2 (any_of _ r (l r) (IntOp.andi_eq_one.2 ⟨hat _ ht, ?_⟩)) (any_of _ r k (IntOp.andi_eq_one.2 ⟨hat _ he, ?_⟩))
  · refine (congrArg₂ (IntOp.cmpi .eq) (lane_apply r (l r)) ((label_apply L r (l r)).trans (hl r))).trans ?_
    exact IntOp.cmpi_eq.2 rfl
  · refine (congrArg₂ (IntOp.cmpi .slt) (lane_apply r k) ((label_apply L r k).trans (hl r))).trans ?_
    exact (WordCmp.cmpi_slt_ofNat_eq_one_iff (by omega) (by omega)).2 hk

end Cert.PreRows
-- ==== Proof.Equation.lean ====
/- The equation of the two programs: from memories that agree on the arguments and satisfy the precondition, the
   idealized kernel and the reference end with the same loss. -/
module

public import proofs.«01_k».proof.Defs
public import proofs.«01_k».proof.Proof.KernelStats
public import proofs.«01_k».proof.Proof.RefLoss
public import proofs.«01_k».proof.Proof.PreRows
public import proofs.«01_k».proof.Proof.Gen.Pre_finite_labelled_untied

@[expose] public section

set_option maxRecDepth 16384

noncomputable section

namespace Cert.Equation

open Idealize.ShloMosaic Idealize.ShloMosaic.TcCoe Idealize.SL.Sem
open Cert.RowMath Cert.LossMath

/-- A one-element array is known from its element. -/
theorem one_ext {a b : FVec Ideal Cert.KernelIdeal.S1 .f32} (h : a (ix1 0) = b (ix1 0)) : a = b := by
  funext i
  obtain rfl : i = ix1 0 := by
    funext k
    match k with
    | ⟨0, _⟩ => exact Subsingleton.elim (α := Fin 1) _ _
  exact h

/-- The equation. -/
theorem algebraic : Cert.algebraic_KernelIdeal_ReferenceIdeal_pre_finite_labelled_untied := by
  intro m g m' g' hpre hag
  refine ⟨fun c => Cert.KernelIdeal.Run.W5 m g c (Proc.devRef .tc Cert.KernelIdeal.main_v0),
    (θ_run Cert.KernelIdeal.defs _ _).mono (fun _ h c => h.1 c) (Cert.KernelIdeal.Run.run m g),
    (θ_run Cert.ReferenceIdeal.defs _ _).mono (fun _ h c => ⟨(h c).1.trans ?_, (h c).2⟩) (Cert.ReferenceIdeal.Value.run (F := Ideal) m' g')⟩
  obtain ⟨x, l, hx, hl, ht⟩ := Cert.PreRows.decode _ _ _ _ (hpre c)
  have H : Cert.RefRows.Rows (StableHlo.launchContents m' c) x l :=
    ⟨fun r k => (congrFun (hag c).1 (ix2 r k)).trans (hx r k), fun r => (congrFun (hag c).2.1 (ix1 r)).trans (hl r), ht⟩
  refine one_ext ?_
  refine (Cert.RefRows.loss_apply H).trans ?_
  rw [loss_eq _ _ _ _ (fun r => conf_nonneg (x r)) (fun r => conf_le_one (x r)) (fun r => unc_nonneg (x r))]
  exact (Cert.KernelStats.result_apply m g c hx hl).symm

end Cert.Equation

end
-- ==== Proof.lean ====
/- The certificate's claim, assembled: the three frames and the ledger (Proof/Frames.lean), the equation (Proof/Equation.lean). -/
module

public import proofs.«01_k».proof.Defs
public import proofs.«01_k».proof.Proof.Frames
public import proofs.«01_k».proof.Proof.Equation
public import proofs.«01_k».proof.Proof.Gen.Pre_finite_labelled_untied
public import proofs.«01_k».proof.Proof.RefRun

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Pre_finite_labelled_untied.Gen.facts,
    Cert.Frames.frame_kernel, Cert.Frames.frame_ideal, fun m g _ => Cert.Frames.frame_ideal m g trivial,
    Cert.Frames.frame_reference, fun m g _ => Cert.Frames.frame_reference m g trivial, Cert.Frames.step_named,
    Cert.Equation.algebraic⟩

end Cert.Proof

end
